-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S19x1024x8192 : Shape := ⟨3, ![19, 1024, 8192]⟩
abbrev S8192 : Shape := ⟨1, ![8192]⟩
abbrev S19456x8192 : Shape := ⟨2, ![19456, 8192]⟩
abbrev S1x8192 : Shape := ⟨2, ![1, 8192]⟩
abbrev S152x1x128 : Shape := ⟨3, ![152, 1, 128]⟩
abbrev S128x8192 : Shape := ⟨2, ![128, 8192]⟩
abbrev S1x1x128 : Shape := ⟨3, ![1, 1, 128]⟩
abbrev S128x128 : Shape := ⟨2, ![128, 128]⟩
abbrev S16x128 : Shape := ⟨2, ![16, 128]⟩
abbrev S16x256 : Shape := ⟨2, ![16, 256]⟩
abbrev S128 : Shape := ⟨1, ![128]⟩
abbrev S128x1 : Shape := ⟨2, ![128, 1]⟩
abbrev S1x256 : Shape := ⟨2, ![1, 256]⟩
abbrev S32x128 : Shape := ⟨2, ![32, 128]⟩
abbrev S32x256 : Shape := ⟨2, ![32, 256]⟩

abbrev nBuf : Space → Nat
  | .hbm => 9
  | .vmem => 14
  | .smem => 0
  | _ => 0

abbrev bufTy : (tb : Table) → Fin (tcTables nBuf tb) → BufTy
  | .hbm, ⟨0, _⟩ => ⟨S19x1024x8192, .bf16⟩
  | .hbm, ⟨1, _⟩ => ⟨S19x1024x8192, .bf16⟩
  | .hbm, ⟨2, _⟩ => ⟨S8192, .bf16⟩
  | .hbm, ⟨3, _⟩ => ⟨S19456x8192, .bf16⟩
  | .hbm, ⟨4, _⟩ => ⟨S19456x8192, .bf16⟩
  | .hbm, ⟨5, _⟩ => ⟨S1x8192, .bf16⟩
  | .hbm, ⟨6, _⟩ => ⟨S19456x8192, .bf16⟩
  | .hbm, ⟨7, _⟩ => ⟨S19456x8192, .i8⟩
  | .hbm, ⟨8, _⟩ => ⟨S152x1x128, .f32⟩
  | .local _ .vmem, ⟨0, _⟩ => ⟨S128x8192, .bf16⟩
  | .local _ .vmem, ⟨1, _⟩ => ⟨S128x8192, .bf16⟩
  | .local _ .vmem, ⟨2, _⟩ => ⟨S128x8192, .bf16⟩
  | .local _ .vmem, ⟨3, _⟩ => ⟨S128x8192, .bf16⟩
  | .local _ .vmem, ⟨4, _⟩ => ⟨S1x8192, .bf16⟩
  | .local _ .vmem, ⟨5, _⟩ => ⟨S128x8192, .bf16⟩
  | .local _ .vmem, ⟨6, _⟩ => ⟨S128x8192, .bf16⟩
  | .local _ .vmem, ⟨7, _⟩ => ⟨S128x8192, .i8⟩
  | .local _ .vmem, ⟨8, _⟩ => ⟨S128x8192, .i8⟩
  | .local _ .vmem, ⟨9, _⟩ => ⟨S1x1x128, .f32⟩
  | .local _ .vmem, ⟨10, _⟩ => ⟨S1x1x128, .f32⟩
  | .local _ .vmem, ⟨11, _⟩ => ⟨S128x8192, .f32⟩
  | .local _ .vmem, ⟨12, _⟩ => ⟨S1x8192, .f32⟩
  | .local _ .vmem, ⟨13, _⟩ => ⟨S128x128, .f32⟩
  | _, _ => ⟨S19x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![152], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_off1 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v41 : Index := Scalar.indexCast v39
  let c0_30 : Index := 0#32
  ![v41.toNat, 0]
def k0_off2 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v63 : Index := Scalar.indexCast v39
  let c256 : Index := 256#32
  ![v63.toNat, 256]
def k0_off3 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v85 : Index := Scalar.indexCast v39
  let c512 : Index := 512#32
  ![v85.toNat, 512]
def k0_off4 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v107 : Index := Scalar.indexCast v39
  let c768 : Index := 768#32
  ![v107.toNat, 768]
def k0_off5 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v129 : Index := Scalar.indexCast v39
  let c1024 : Index := 1024#32
  ![v129.toNat, 1024]
def k0_off6 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v151 : Index := Scalar.indexCast v39
  let c1280 : Index := 1280#32
  ![v151.toNat, 1280]
def k0_off7 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v173 : Index := Scalar.indexCast v39
  let c1536 : Index := 1536#32
  ![v173.toNat, 1536]
def k0_off8 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v195 : Index := Scalar.indexCast v39
  let c1792 : Index := 1792#32
  ![v195.toNat, 1792]
def k0_off9 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v217 : Index := Scalar.indexCast v39
  let c2048 : Index := 2048#32
  ![v217.toNat, 2048]
def k0_off10 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v239 : Index := Scalar.indexCast v39
  let c2304 : Index := 2304#32
  ![v239.toNat, 2304]
def k0_off11 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v261 : Index := Scalar.indexCast v39
  let c2560 : Index := 2560#32
  ![v261.toNat, 2560]
def k0_off12 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v283 : Index := Scalar.indexCast v39
  let c2816 : Index := 2816#32
  ![v283.toNat, 2816]
def k0_off13 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v305 : Index := Scalar.indexCast v39
  let c3072 : Index := 3072#32
  ![v305.toNat, 3072]
def k0_off14 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v327 : Index := Scalar.indexCast v39
  let c3328 : Index := 3328#32
  ![v327.toNat, 3328]
def k0_off15 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v349 : Index := Scalar.indexCast v39
  let c3584 : Index := 3584#32
  ![v349.toNat, 3584]
def k0_off16 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v371 : Index := Scalar.indexCast v39
  let c3840 : Index := 3840#32
  ![v371.toNat, 3840]
def k0_off17 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v393 : Index := Scalar.indexCast v39
  let c4096 : Index := 4096#32
  ![v393.toNat, 4096]
def k0_off18 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v415 : Index := Scalar.indexCast v39
  let c4352 : Index := 4352#32
  ![v415.toNat, 4352]
def k0_off19 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v437 : Index := Scalar.indexCast v39
  let c4608 : Index := 4608#32
  ![v437.toNat, 4608]
def k0_off20 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v459 : Index := Scalar.indexCast v39
  let c4864 : Index := 4864#32
  ![v459.toNat, 4864]
def k0_off21 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v481 : Index := Scalar.indexCast v39
  let c5120 : Index := 5120#32
  ![v481.toNat, 5120]
def k0_off22 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v503 : Index := Scalar.indexCast v39
  let c5376 : Index := 5376#32
  ![v503.toNat, 5376]
def k0_off23 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v525 : Index := Scalar.indexCast v39
  let c5632 : Index := 5632#32
  ![v525.toNat, 5632]
def k0_off24 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v547 : Index := Scalar.indexCast v39
  let c5888 : Index := 5888#32
  ![v547.toNat, 5888]
def k0_off25 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v569 : Index := Scalar.indexCast v39
  let c6144 : Index := 6144#32
  ![v569.toNat, 6144]
def k0_off26 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v591 : Index := Scalar.indexCast v39
  let c6400 : Index := 6400#32
  ![v591.toNat, 6400]
def k0_off27 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v613 : Index := Scalar.indexCast v39
  let c6656 : Index := 6656#32
  ![v613.toNat, 6656]
def k0_off28 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v635 : Index := Scalar.indexCast v39
  let c6912 : Index := 6912#32
  ![v635.toNat, 6912]
def k0_off29 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v657 : Index := Scalar.indexCast v39
  let c7168 : Index := 7168#32
  ![v657.toNat, 7168]
def k0_off30 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v679 : Index := Scalar.indexCast v39
  let c7424 : Index := 7424#32
  ![v679.toNat, 7424]
def k0_off31 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v701 : Index := Scalar.indexCast v39
  let c7680 : Index := 7680#32
  ![v701.toNat, 7680]
def k0_off32 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v723 : Index := Scalar.indexCast v39
  let c7936 : Index := 7936#32
  ![v723.toNat, 7936]
def k0_off33 (k0_t1 : Fin k0_t1_loop.trips) : Fin 2 → Nat :=
  let c0_i32_28 : BitVec 32 := 0#32
  let c0_i32_1 : BitVec 32 := 0#32
  let c1_i32 : BitVec 32 := 1#32
  let arg10 : BitVec 32 := Scf.iv c0_i32_1 c1_i32 k0_t1
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v745 : Index := Scalar.indexCast v39
  let c0_127 : Index := 0#32
  ![v745.toNat, 0]
@[reducible] def k0_t2_loop : Scf.Loop 32 :=
  let c0_i32_8 : BitVec 32 := 0#32
  let c8_i32_9 : BitVec 32 := 8#32
  let v17 : BitVec 32 := Scalar.addi c0_i32_8 c8_i32_9
  let c1_i32_10 : BitVec 32 := 1#32
  ⟨c0_i32_8, v17, c1_i32_10⟩
def k0_off34 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v40 : Index := Scalar.indexCast v39
  let c0_29 : Index := 0#32
  ![v40.toNat, 0]
def k0_off35 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v44 : Index := Scalar.indexCast v39
  let c0_31 : Index := 0#32
  ![v44.toNat, 0]
def k0_off36 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v59 : Index := Scalar.indexCast v39
  let c256 : Index := 256#32
  ![v59.toNat, 256]
def k0_off37 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v74 : Index := Scalar.indexCast v39
  let c512 : Index := 512#32
  ![v74.toNat, 512]
def k0_off38 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v89 : Index := Scalar.indexCast v39
  let c768 : Index := 768#32
  ![v89.toNat, 768]
def k0_off39 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v104 : Index := Scalar.indexCast v39
  let c1024 : Index := 1024#32
  ![v104.toNat, 1024]
def k0_off40 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v119 : Index := Scalar.indexCast v39
  let c1280 : Index := 1280#32
  ![v119.toNat, 1280]
def k0_off41 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v134 : Index := Scalar.indexCast v39
  let c1536 : Index := 1536#32
  ![v134.toNat, 1536]
def k0_off42 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v149 : Index := Scalar.indexCast v39
  let c1792 : Index := 1792#32
  ![v149.toNat, 1792]
def k0_off43 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v164 : Index := Scalar.indexCast v39
  let c2048 : Index := 2048#32
  ![v164.toNat, 2048]
def k0_off44 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v179 : Index := Scalar.indexCast v39
  let c2304 : Index := 2304#32
  ![v179.toNat, 2304]
def k0_off45 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v194 : Index := Scalar.indexCast v39
  let c2560 : Index := 2560#32
  ![v194.toNat, 2560]
def k0_off46 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v209 : Index := Scalar.indexCast v39
  let c2816 : Index := 2816#32
  ![v209.toNat, 2816]
def k0_off47 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v224 : Index := Scalar.indexCast v39
  let c3072 : Index := 3072#32
  ![v224.toNat, 3072]
def k0_off48 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v239 : Index := Scalar.indexCast v39
  let c3328 : Index := 3328#32
  ![v239.toNat, 3328]
def k0_off49 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v254 : Index := Scalar.indexCast v39
  let c3584 : Index := 3584#32
  ![v254.toNat, 3584]
def k0_off50 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v269 : Index := Scalar.indexCast v39
  let c3840 : Index := 3840#32
  ![v269.toNat, 3840]
def k0_off51 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v284 : Index := Scalar.indexCast v39
  let c4096 : Index := 4096#32
  ![v284.toNat, 4096]
def k0_off52 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v299 : Index := Scalar.indexCast v39
  let c4352 : Index := 4352#32
  ![v299.toNat, 4352]
def k0_off53 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v314 : Index := Scalar.indexCast v39
  let c4608 : Index := 4608#32
  ![v314.toNat, 4608]
def k0_off54 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v329 : Index := Scalar.indexCast v39
  let c4864 : Index := 4864#32
  ![v329.toNat, 4864]
def k0_off55 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v344 : Index := Scalar.indexCast v39
  let c5120 : Index := 5120#32
  ![v344.toNat, 5120]
def k0_off56 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v359 : Index := Scalar.indexCast v39
  let c5376 : Index := 5376#32
  ![v359.toNat, 5376]
def k0_off57 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v374 : Index := Scalar.indexCast v39
  let c5632 : Index := 5632#32
  ![v374.toNat, 5632]
def k0_off58 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v389 : Index := Scalar.indexCast v39
  let c5888 : Index := 5888#32
  ![v389.toNat, 5888]
def k0_off59 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v404 : Index := Scalar.indexCast v39
  let c6144 : Index := 6144#32
  ![v404.toNat, 6144]
def k0_off60 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v419 : Index := Scalar.indexCast v39
  let c6400 : Index := 6400#32
  ![v419.toNat, 6400]
def k0_off61 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v434 : Index := Scalar.indexCast v39
  let c6656 : Index := 6656#32
  ![v434.toNat, 6656]
def k0_off62 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v449 : Index := Scalar.indexCast v39
  let c6912 : Index := 6912#32
  ![v449.toNat, 6912]
def k0_off63 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v464 : Index := Scalar.indexCast v39
  let c7168 : Index := 7168#32
  ![v464.toNat, 7168]
def k0_off64 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v479 : Index := Scalar.indexCast v39
  let c7424 : Index := 7424#32
  ![v479.toNat, 7424]
def k0_off65 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v494 : Index := Scalar.indexCast v39
  let c7680 : Index := 7680#32
  ![v494.toNat, 7680]
def k0_off66 (k0_t2 : Fin k0_t2_loop.trips) : Fin 2 → Nat :=
  let c0_i32_28 : BitVec 32 := 0#32
  let c0_i32_8 : BitVec 32 := 0#32
  let c1_i32_10 : BitVec 32 := 1#32
  let arg10 : BitVec 32 := Scf.iv c0_i32_8 c1_i32_10 k0_t2
  let c1_i32_27 : BitVec 32 := 1#32
  let v37 : BitVec 32 := Scalar.muli arg10 c1_i32_27
  let v38 : BitVec 32 := Scalar.addi c0_i32_28 v37
  let c16_i32 : BitVec 32 := 16#32
  let v39 : BitVec 32 := Scalar.muli v38 c16_i32
  let v509 : Index := Scalar.indexCast v39
  let c7936 : Index := 7936#32
  ![v509.toNat, 7936]
@[reducible] def k0_t3_loop : Scf.Loop 32 :=
  let c0_i32_24 : BitVec 32 := 0#32
  let c4_i32 : BitVec 32 := 4#32
  let v36 : BitVec 32 := Scalar.addi c0_i32_24 c4_i32
  let c1_i32_25 : BitVec 32 := 1#32
  ⟨c0_i32_24, v36, c1_i32_25⟩
def k0_off67 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v40 : Index := Scalar.indexCast v39
  let c0_29 : Index := 0#32
  ![v40.toNat, 0]
def k0_off68 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v43 : Index := Scalar.indexCast v39
  let c0_30 : Index := 0#32
  ![v43.toNat, 0]
def k0_off69 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v54 : Index := Scalar.indexCast v39
  let c256 : Index := 256#32
  ![v54.toNat, 256]
def k0_off70 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v65 : Index := Scalar.indexCast v39
  let c512 : Index := 512#32
  ![v65.toNat, 512]
def k0_off71 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v76 : Index := Scalar.indexCast v39
  let c768 : Index := 768#32
  ![v76.toNat, 768]
def k0_off72 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v87 : Index := Scalar.indexCast v39
  let c1024 : Index := 1024#32
  ![v87.toNat, 1024]
def k0_off73 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v98 : Index := Scalar.indexCast v39
  let c1280 : Index := 1280#32
  ![v98.toNat, 1280]
def k0_off74 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v109 : Index := Scalar.indexCast v39
  let c1536 : Index := 1536#32
  ![v109.toNat, 1536]
def k0_off75 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v120 : Index := Scalar.indexCast v39
  let c1792 : Index := 1792#32
  ![v120.toNat, 1792]
def k0_off76 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v131 : Index := Scalar.indexCast v39
  let c2048 : Index := 2048#32
  ![v131.toNat, 2048]
def k0_off77 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v142 : Index := Scalar.indexCast v39
  let c2304 : Index := 2304#32
  ![v142.toNat, 2304]
def k0_off78 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v153 : Index := Scalar.indexCast v39
  let c2560 : Index := 2560#32
  ![v153.toNat, 2560]
def k0_off79 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v164 : Index := Scalar.indexCast v39
  let c2816 : Index := 2816#32
  ![v164.toNat, 2816]
def k0_off80 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v175 : Index := Scalar.indexCast v39
  let c3072 : Index := 3072#32
  ![v175.toNat, 3072]
def k0_off81 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v186 : Index := Scalar.indexCast v39
  let c3328 : Index := 3328#32
  ![v186.toNat, 3328]
def k0_off82 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v197 : Index := Scalar.indexCast v39
  let c3584 : Index := 3584#32
  ![v197.toNat, 3584]
def k0_off83 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v208 : Index := Scalar.indexCast v39
  let c3840 : Index := 3840#32
  ![v208.toNat, 3840]
def k0_off84 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v219 : Index := Scalar.indexCast v39
  let c4096 : Index := 4096#32
  ![v219.toNat, 4096]
def k0_off85 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v230 : Index := Scalar.indexCast v39
  let c4352 : Index := 4352#32
  ![v230.toNat, 4352]
def k0_off86 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v241 : Index := Scalar.indexCast v39
  let c4608 : Index := 4608#32
  ![v241.toNat, 4608]
def k0_off87 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v252 : Index := Scalar.indexCast v39
  let c4864 : Index := 4864#32
  ![v252.toNat, 4864]
def k0_off88 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v263 : Index := Scalar.indexCast v39
  let c5120 : Index := 5120#32
  ![v263.toNat, 5120]
def k0_off89 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v274 : Index := Scalar.indexCast v39
  let c5376 : Index := 5376#32
  ![v274.toNat, 5376]
def k0_off90 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v285 : Index := Scalar.indexCast v39
  let c5632 : Index := 5632#32
  ![v285.toNat, 5632]
def k0_off91 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v296 : Index := Scalar.indexCast v39
  let c5888 : Index := 5888#32
  ![v296.toNat, 5888]
def k0_off92 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v307 : Index := Scalar.indexCast v39
  let c6144 : Index := 6144#32
  ![v307.toNat, 6144]
def k0_off93 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v318 : Index := Scalar.indexCast v39
  let c6400 : Index := 6400#32
  ![v318.toNat, 6400]
def k0_off94 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v329 : Index := Scalar.indexCast v39
  let c6656 : Index := 6656#32
  ![v329.toNat, 6656]
def k0_off95 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v340 : Index := Scalar.indexCast v39
  let c6912 : Index := 6912#32
  ![v340.toNat, 6912]
def k0_off96 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v351 : Index := Scalar.indexCast v39
  let c7168 : Index := 7168#32
  ![v351.toNat, 7168]
def k0_off97 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v362 : Index := Scalar.indexCast v39
  let c7424 : Index := 7424#32
  ![v362.toNat, 7424]
def k0_off98 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v373 : Index := Scalar.indexCast v39
  let c7680 : Index := 7680#32
  ![v373.toNat, 7680]
def k0_off99 (k0_t3 : Fin k0_t3_loop.trips) : Fin 2 → Nat :=
  let c0_i32_28 : BitVec 32 := 0#32
  let c0_i32_24 : BitVec 32 := 0#32
  let c1_i32_25 : BitVec 32 := 1#32
  let arg10 : BitVec 32 := Scf.iv c0_i32_24 c1_i32_25 k0_t3
  let c1_i32_27 : BitVec 32 := 1#32
  let v37 : BitVec 32 := Scalar.muli arg10 c1_i32_27
  let v38 : BitVec 32 := Scalar.addi c0_i32_28 v37
  let c32_i32 : BitVec 32 := 32#32
  let v39 : BitVec 32 := Scalar.muli v38 c32_i32
  let v384 : Index := Scalar.indexCast v39
  let c7936 : Index := 7936#32
  ![v384.toNat, 7936]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8192 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S19x1024x8192 : Shape := ⟨3, ![19, 1024, 8192]⟩
abbrev S8192 : Shape := ⟨1, ![8192]⟩
abbrev S19456x8192 : Shape := ⟨2, ![19456, 8192]⟩
abbrev S1x8192 : Shape := ⟨2, ![1, 8192]⟩
abbrev S152x1x128 : Shape := ⟨3, ![152, 1, 128]⟩
abbrev S19456 : Shape := ⟨1, ![19456]⟩
abbrev S19456x1 : Shape := ⟨2, ![19456, 1]⟩

abbrev nBuf : Space → Nat
  | .hbm => 9
  | .vmem => 6
  | .smem => 0
  | _ => 0

abbrev bufTy : (tb : Table) → Fin (tcTables nBuf tb) → BufTy
  | .hbm, ⟨0, _⟩ => ⟨S19x1024x8192, .bf16⟩
  | .hbm, ⟨1, _⟩ => ⟨S19x1024x8192, .bf16⟩
  | .hbm, ⟨2, _⟩ => ⟨S8192, .bf16⟩
  | .hbm, ⟨3, _⟩ => ⟨S19456x8192, .bf16⟩
  | .hbm, ⟨4, _⟩ => ⟨S19456x8192, .bf16⟩
  | .hbm, ⟨5, _⟩ => ⟨S1x8192, .bf16⟩
  | .hbm, ⟨6, _⟩ => ⟨S19456x8192, .bf16⟩
  | .hbm, ⟨7, _⟩ => ⟨S19456x8192, .i8⟩
  | .hbm, ⟨8, _⟩ => ⟨S152x1x128, .f32⟩
  | .local _ .vmem, ⟨0, _⟩ => ⟨S19456x8192, .bf16⟩
  | .local _ .vmem, ⟨1, _⟩ => ⟨S19456x8192, .bf16⟩
  | .local _ .vmem, ⟨2, _⟩ => ⟨S1x8192, .bf16⟩
  | .local _ .vmem, ⟨3, _⟩ => ⟨S19456x8192, .bf16⟩
  | .local _ .vmem, ⟨4, _⟩ => ⟨S19456x8192, .i8⟩
  | .local _ .vmem, ⟨5, _⟩ => ⟨S152x1x128, .f32⟩
  | _, _ => ⟨S19x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S19456x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S19456x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S19456x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S19456x8192 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S152x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Trips.lean ====
module
public import proofs.«01_k».proof.Proof.Gen.KernelIdeal.Loops
public import Idealize.ShloMosaic.Lib.Pipeline.ValueKit
@[expose] public section
set_option maxRecDepth 16384
noncomputable section
namespace Cert.KernelIdeal.Val
open Idealize.ShloMosaic Idealize.ShloMosaic.TcCoe Idealize.ShloMosaic.Tactic
open Cert.KernelIdeal Cert.KernelIdeal.Gen

variable {F : FTy → Type} [FloatOps F] {α : Type}

/-- The row of a 128-row block a natural number names. -/
abbrev rowOf (n : ℕ) : Fin 128 := ⟨n % 128, Nat.mod_lt _ (by decide)⟩
/-- The column of an 8192-column block a natural number names. -/
abbrev colOf (n : ℕ) : Fin 8192 := ⟨n % 8192, Nat.mod_lt _ (by decide)⟩

/-- The tile of a block whose first index is `o`: its value at the local index `x` is the block's at `o + x`. -/
def chunk {sz : Fin 2 → ℕ} (W : S128x8192.Idx → α) (o : Fin 2 → ℕ) : (⟨2, sz⟩ : Shape).Idx → α :=
  fun x => W (ValueIdx.ix2 (rowOf (o 0 + (x 0).val)) (colOf (o 1 + (x 1).val)))

/-- A tile, where it holds the block's index `y`, has the block's value there. -/
theorem chunk_tile {sz : Fin 2 → ℕ} (W : S128x8192.Idx → α) (o : Fin 2 → ℕ) (y : S128x8192.Idx)
    (x : (⟨2, sz⟩ : Shape).Idx) (hx : ∀ a, (y a : ℕ) = o a + x a) : chunk W o x = W y := by
  unfold chunk
  have h0 := hx 0; have h1 := hx 1
  have b0 : (y 0 : ℕ) < 128 := (y 0).isLt
  have b1 : (y 1 : ℕ) < 8192 := (y 1).isLt
  congr 1
  rw [ValueIdx.eq_ix2 y]
  congr 1
  · apply Fin.ext; show (o 0 + (x 0).val) % 128 = _; rw [← h0]; exact Nat.mod_eq_of_lt b0
  · apply Fin.ext; show (o 1 + (x 1).val) % 8192 = _; rw [← h1]; exact Nat.mod_eq_of_lt b1

/-- A load of a tile of a block at offsets of a known closed form reads that tile of the contents. -/
theorem ld_chunk {sig : RefSig} {κ : Kind} {sp : Space} {e : EltTy} {Val : EltTy → Type} (v : View sig κ sp S128x8192 e)
    (f : v.ty.Contents Val) {off sz : Fin 2 → ℕ} (inb : ∀ a, off a + sz a ≤ S128x8192.size a) [ho : ClosedOff off] :
    v.readAt Val (Rect.unit (s := S128x8192) off sz inb).toLoadRect f = chunk (v.read Val f) ho.form := by
  funext x
  rw [View.readAt_eq_ld]
  refine (chunk_tile _ _ _ x fun a => ?_).symm
  rw [Rect.idx_unit_val, congrFun ho.eq a]

/-- The lane of a 128-lane row that a column of an 8192-column block falls on. -/
abbrev laneOf (n : ℕ) : Fin 128 := ⟨n % 128, Nat.mod_lt _ (by decide)⟩

/-- The tile of a block of row statistics whose first index is `o`. -/
def stat {sz : Fin 2 → ℕ} (W : S128x128.Idx → α) (o : Fin 2 → ℕ) : (⟨2, sz⟩ : Shape).Idx → α :=
  fun x => W (ValueIdx.ix2 (rowOf (o 0 + (x 0).val)) (laneOf (o 1 + (x 1).val)))

/-- A tile of row statistics, where it holds the index `y`, has the value there. -/
theorem stat_tile {sz : Fin 2 → ℕ} (W : S128x128.Idx → α) (o : Fin 2 → ℕ) (y : S128x128.Idx)
    (x : (⟨2, sz⟩ : Shape).Idx) (hx : ∀ a, (y a : ℕ) = o a + x a) : stat W o x = W y := by
  unfold stat
  have h0 := hx 0; have h1 := hx 1
  have b0 : (y 0 : ℕ) < 128 := (y 0).isLt
  have b1 : (y 1 : ℕ) < 128 := (y 1).isLt
  congr 1
  rw [ValueIdx.eq_ix2 y]
  congr 1
  · apply Fin.ext; show (o 0 + (x 0).val) % 128 = _; rw [← h0]; exact Nat.mod_eq_of_lt b0
  · apply Fin.ext; show (o 1 + (x 1).val) % 128 = _; rw [← h1]; exact Nat.mod_eq_of_lt b1

/-- A load of a tile of row statistics at offsets of a known closed form. -/
theorem ld_stat {sig : RefSig} {κ : Kind} {sp : Space} {e : EltTy} {Val : EltTy → Type} (v : View sig κ sp S128x128 e)
    (f : v.ty.Contents Val) {off sz : Fin 2 → ℕ} (inb : ∀ a, off a + sz a ≤ S128x128.size a) [ho : ClosedOff off] :
    v.readAt Val (Rect.unit (s := S128x128) off sz inb).toLoadRect f = stat (v.read Val f) ho.form := by
  funext x
  rw [View.readAt_eq_ld]
  refine (stat_tile _ _ _ x fun a => ?_).symm
  rw [Rect.idx_unit_val, congrFun ho.eq a]

/-- A load of a stretch of the one-row gain. -/
theorem ld_gain {sig : RefSig} {κ : Kind} {sp : Space} {e : EltTy} {Val : EltTy → Type} (v : View sig κ sp S1x8192 e)
    (f : v.ty.Contents Val) (o : ℕ) {sz : Fin 2 → ℕ} (inb : ∀ a, (![0, o] : Fin 2 → ℕ) a + sz a ≤ S1x8192.size a) :
    v.readAt Val (Rect.unit (s := S1x8192) ![0, o] sz inb).toLoadRect f
      = fun x => v.read Val f (ValueIdx.ix2 (0 : Fin 1) (colOf (o + (x 1).val))) := by
  funext x
  rw [View.readAt_eq_ld]
  refine View.ld_unit_apply_of _ _ _ _ _ _ fun a => ?_
  have h0 := inb 0; have h1 := inb 1
  have b0 := (x 0).isLt; have b1 := (x 1).isLt
  change 0 + sz 0 ≤ 1 at h0; change o + sz 1 ≤ 8192 at h1
  change (x 0).val < sz 0 at b0; change (x 1).val < sz 1 at b1
  match a with
  | ⟨0, _⟩ => show 0 = 0 + (x 0).val; omega
  | ⟨1, _⟩ => show (o + (x 1).val) % 8192 = o + (x 1).val; exact Nat.mod_eq_of_lt (by omega)

/-- Two copies of 128 lanes of row statistics side by side, at a column: the statistic of its lane. -/
theorem concat_lanes {n : ℕ} (v : (⟨2, ![n, 128]⟩ : Shape).Idx → α)
    (h : Shape.Concatenates [⟨2, ![n, 128]⟩, ⟨2, ![n, 128]⟩] (⟨2, ![n, 256]⟩ : Shape) 1)
    (x : (⟨2, ![n, 256]⟩ : Shape).Idx) :
    concatenate (⟨2, ![n, 256]⟩ : Shape) 1 [⟨⟨2, ![n, 128]⟩, v⟩, ⟨⟨2, ![n, 128]⟩, v⟩] h x
      = v (ValueIdx.ix2 (x 0) (laneOf (x 1).val)) := by
  refine concatenate_replicate_apply (s₁ := ⟨2, ![n, 128]⟩) 1 2 v h rfl x _ rfl fun b hb => ?_
  match b with
  | ⟨0, _⟩ => rfl
  | ⟨1, _⟩ => exact absurd rfl hb

/-- The first half of a tile's lanes. -/
theorem slice_lo (v : S16x256.Idx → α) (h : S16x256.Slices ![0, 0] S16x128) :
    extractStridedSlice S16x128 ![0, 0] v h = fun x => v (ValueIdx.ix2 (x 0) ⟨(x 1).val, Nat.lt_trans (x 1).isLt (by decide)⟩) := by
  funext x
  refine extractStridedSlice_apply _ _ _ _ _ fun a => ?_
  match a with
  | ⟨0, _⟩ => exact (Nat.zero_add _).symm
  | ⟨1, _⟩ => exact (Nat.zero_add _).symm

/-- The second half of a tile's lanes. -/
theorem slice_hi (v : S16x256.Idx → α) (h : S16x256.Slices ![0, 128] S16x128) :
    extractStridedSlice S16x128 ![0, 128] v h
      = fun x => v (ValueIdx.ix2 (x 0) ⟨128 + (x 1).val, Nat.add_lt_add_left (m := 128) (x 1).isLt 128⟩) := by
  funext x
  refine extractStridedSlice_apply _ _ _ _ _ fun a => ?_
  match a with
  | ⟨0, _⟩ => exact (Nat.zero_add _).symm
  | ⟨1, _⟩ => rfl

/-- One code: the scaled value rounded half to even, clipped to [-127, 127] and converted to eight bits. -/
def code (y r : F .f32) : BitVec 8 :=
  FloatOps.fptosi 8 (FloatOps.minimumf (Scalar.ofBits .f32 0x42FE0000#32)
    (FloatOps.maximumf (Scalar.ofBits .f32 0xC2FE0000#32) (FloatOps.roundeven (FloatOps.mulf y r))))

/-- The lane of row statistics an index of a block reads. -/
abbrev lane (y : S128x8192.Idx) : S128x128.Idx := ValueIdx.ix2 (y 0) (laneOf (y 1).val)

/-- A 32-row tile of codes has at each index the code of the block's value and its row's statistic. -/
theorem code_tile (Y : S128x8192.Idx → F .f32) (R : S128x128.Idx → F .f32) (y : S128x8192.Idx) (r c : ℕ) (hc : c % 128 = 0)
    {off : Fin 2 → ℕ} (ho : off = ![r, c]) (w : S32x256.Idx → BitVec 8)
    (hw : w = fun x => code (chunk Y ![r, c] x) (k0_pay210 (stat R ![r, 0]) x)) :
    View.TileAt (Val := Elt F) (e := .i8) y off ![32, 256] w (code (Y y) (R (lane y))) := by
  intro x hx
  subst ho hw
  have e := concat_lanes (stat (sz := ![32, 128]) R ![r, 0]) concatenates_S32x128_S32x128_S32x256_d1 x
  have e2 : stat (sz := ![32, 128]) R ![r, 0] (ValueIdx.ix2 (x 0) (laneOf (x 1).val)) = R (lane y) := by
    refine stat_tile _ _ _ _ fun a => ?_
    match a with
    | ⟨0, _⟩ => exact hx 0
    | ⟨1, _⟩ =>
      have h1 := hx 1
      change (y 1 : ℕ) = c + (x 1).val at h1
      show (y 1 : ℕ) % 128 = 0 + (x 1).val % 128
      omega
  exact congrArg₂ code (chunk_tile _ _ _ _ hx) (e.trans e2)

/-- A trip of the third loop stores codes that agree with the block of codes where they lie. -/
theorem t3_at (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X_arg7 : BufTy.Contents (Elt F) arg7.view.ty) (X_arg9 : BufTy.Contents (Elt F) arg9.view.ty) (k : Fin k0_t3_loop.trips) (y : S128x8192.Idx) :
    View.AllAt (tripL_k0_t3 (F := F) 𝒱 c bd i arg1 harg1 arg2 harg2 arg3 harg3 arg4 harg4 arg5 harg5 arg6 harg6 arg7 harg7 arg8 harg8 arg9 harg9 X_arg7 X_arg9 k) y
      (code (arg7.view.read (Elt F) X_arg7 y) (arg9.view.read (Elt F) X_arg9 (lane y))) := by
  unfold tripL_k0_t3 trip_k0_t3
  dsimp only
  sl_unfold_run_names
  simp only [ld_chunk, ld_stat]
  repeat (refine View.allAt_cons_unit _ _ _ _ _ (code_tile _ _ _ (32 * k.val) _ ?_ (ClosedOff.eq (self := inferInstance)) _ (by open_payloads; rfl)) ?_; · rfl)
  exact View.allAt_nil _ _

/-- The residual sum in the sixteen-bit format. -/
def new (a b : F .bf16) : F .bf16 :=
  FloatOps.truncf .bf16 bitsLt_bf16_f32
    (FloatOps.addf (FloatOps.extf .f32 bitsLt_bf16_f32 a) (FloatOps.extf .f32 bitsLt_bf16_f32 b))

/-- The residual sum, rounded to the sixteen-bit format and widened again. -/
def res (a b : F .bf16) : F .f32 := FloatOps.extf .f32 bitsLt_bf16_f32 (new a b)

/-- The residual sums of a block. -/
def newB (a b : S128x8192.Idx → F .bf16) : S128x8192.Idx → F .bf16 := fun y => new (a y) (b y)

/-- The residual sums of a block, rounded and widened. -/
def resB (a b : S128x8192.Idx → F .bf16) : S128x8192.Idx → F .f32 := fun y => res (a y) (b y)

/-- A running statistic from zero over 256-entry stretches in order: the stretch's two entries of the lane combined and
    taken into the running value. -/
def foldU (op : F .f32 → F .f32 → F .f32) (f : F .f32 → F .f32) (u : ℕ → ℕ → F .f32) (l : ℕ) : ℕ → F .f32
  | 0 => Scalar.ofBits .f32 0x00000000#32
  | j + 1 => op (foldU op f u l j) (op (f (u j l)) (f (u j (128 + l))))

/-- A running statistic depends only on the entries it reads. -/
theorem foldU_congr (op : F .f32 → F .f32 → F .f32) (f : F .f32 → F .f32) {u u' : ℕ → ℕ → F .f32} {l : ℕ} (hl : l < 128) :
    ∀ n, (∀ j, j < n → ∀ q, q < 256 → u j q = u' j q) → foldU op f u l n = foldU op f u' l n
  | 0, _ => rfl
  | n + 1, h => by
    unfold foldU
    rw [foldU_congr op f hl n fun j hj => h j (Nat.lt_succ_of_lt hj), h n (Nat.lt_succ_self n) l (by omega),
      h n (Nat.lt_succ_self n) (128 + l) (by omega)]

/-- A statistic of a block's row by lanes, over the 256-column tiles in order. -/
def fold (op : F .f32 → F .f32 → F .f32) (f : F .f32 → F .f32) (v : S128x8192.Idx → F .f32) (r : Fin 128) (l : ℕ) : ℕ → F .f32 :=
  foldU op f (fun j n => v (ValueIdx.ix2 r (colOf (256 * j + n)))) l

/-- The lane statistics of a whole block. -/
def lanes (op : F .f32 → F .f32 → F .f32) (f : F .f32 → F .f32) (v : S128x8192.Idx → F .f32) : S128x128.Idx → F .f32 :=
  fun y => fold op f v (y 0) (y 1).val 32

/-- A tile of the block in the 16-row loops. -/
theorem row_tile {e : EltTy} (W : S128x8192.Idx → Elt F e) (y : S128x8192.Idx) (r c : ℕ)
    {off : Fin 2 → ℕ} (ho : off = ![r, c]) (w : S16x256.Idx → Elt F e) (hw : w = chunk W ![r, c]) :
    View.TileAt (Val := Elt F) (e := e) y off ![16, 256] w (W y) := by
  intro x hx
  subst ho hw
  exact chunk_tile _ _ _ _ hx

/-- A tile of lane statistics in the 16-row loops. -/
theorem lanes_tile (op : F .f32 → F .f32 → F .f32) (f : F .f32 → F .f32) (v : S128x8192.Idx → F .f32) (y : S128x128.Idx) (r : ℕ)
    {off : Fin 2 → ℕ} (ho : off = ![r, 0]) (w : S16x128.Idx → F .f32)
    (hw : ∀ x, w x = fold op f v (rowOf (r + (x 0).val)) (x 1).val 32) :
    View.TileAt (Val := Elt F) (e := .f32) y off ![16, 128] w (lanes op f v y) := by
  intro x hx
  subst ho
  rw [hw x]
  have h0 := hx 0; have h1 := hx 1
  change (y 0 : ℕ) = r + (x 0).val at h0
  change (y 1 : ℕ) = 0 + (x 1).val at h1
  have b0 : (y 0 : ℕ) < 128 := (y 0).isLt
  have e0 : rowOf (r + (x 0).val) = y 0 := Fin.ext (by show (r + (x 0).val) % 128 = _; omega)
  unfold lanes
  rw [e0, h1, Nat.zero_add]

/-- A trip of the first loop stores residual sums that agree with the block of them where they lie. -/
theorem t1_at4 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X_arg1 : BufTy.Contents (Elt F) arg1.view.ty) (X_arg2 : BufTy.Contents (Elt F) arg2.view.ty) (k : Fin k0_t1_loop.trips) (y : S128x8192.Idx) :
    View.AllAt (tripL_k0_t1 (F := F) 𝒱 c bd i arg1 harg1 arg2 harg2 arg3 harg3 arg4 harg4 arg5 harg5 arg6 harg6 arg7 harg7 arg8 harg8 arg9 harg9 X_arg1 X_arg2 k).1 y
      (newB (arg1.view.read (Elt F) X_arg1) (arg2.view.read (Elt F) X_arg2) y) := by
  unfold tripL_k0_t1 trip_k0_t1
  dsimp only
  sl_unfold_run_names
  simp only [ld_chunk]
  repeat (refine View.allAt_cons_unit _ _ _ _ _ (row_tile (e := .bf16) (newB (arg1.view.read (Elt F) X_arg1) (arg2.view.read (Elt F) X_arg2)) _ (16 * k.val) _ (ClosedOff.eq (self := inferInstance)) _ ?_) ?_; · open_payloads; simp only [shapeCast_self]; rfl)
  exact View.allAt_nil _ _

/-- A trip of the first loop stores widened residual sums that agree with the block of them where they lie. -/
theorem t1_at7 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X_arg1 : BufTy.Contents (Elt F) arg1.view.ty) (X_arg2 : BufTy.Contents (Elt F) arg2.view.ty) (k : Fin k0_t1_loop.trips) (y : S128x8192.Idx) :
    View.AllAt (tripL_k0_t1 (F := F) 𝒱 c bd i arg1 harg1 arg2 harg2 arg3 harg3 arg4 harg4 arg5 harg5 arg6 harg6 arg7 harg7 arg8 harg8 arg9 harg9 X_arg1 X_arg2 k).2.1 y
      (resB (arg1.view.read (Elt F) X_arg1) (arg2.view.read (Elt F) X_arg2) y) := by
  unfold tripL_k0_t1 trip_k0_t1
  dsimp only
  sl_unfold_run_names
  simp only [ld_chunk]
  repeat (refine View.allAt_cons_unit _ _ _ _ _ (row_tile (e := .f32) (resB (arg1.view.read (Elt F) X_arg1) (arg2.view.read (Elt F) X_arg2)) _ (16 * k.val) _ (ClosedOff.eq (self := inferInstance)) _ ?_) ?_; · open_payloads; simp only [shapeCast_self]; rfl)
  exact View.allAt_nil _ _

/-- A trip of the first loop stores lane sums of squares that agree with the block's where they lie. -/
theorem t1_at9 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X_arg1 : BufTy.Contents (Elt F) arg1.view.ty) (X_arg2 : BufTy.Contents (Elt F) arg2.view.ty) (k : Fin k0_t1_loop.trips) (y : S128x128.Idx) :
    View.AllAt (tripL_k0_t1 (F := F) 𝒱 c bd i arg1 harg1 arg2 harg2 arg3 harg3 arg4 harg4 arg5 harg5 arg6 harg6 arg7 harg7 arg8 harg8 arg9 harg9 X_arg1 X_arg2 k).2.2 y
      (lanes FloatOps.addf (fun z => FloatOps.mulf z z) (resB (arg1.view.read (Elt F) X_arg1) (arg2.view.read (Elt F) X_arg2)) y) := by
  unfold tripL_k0_t1 trip_k0_t1
  dsimp only
  sl_unfold_run_names
  simp only [ld_chunk]
  refine View.allAt_cons_unit _ _ _ _ _ (lanes_tile _ _ _ _ (16 * k.val) (ClosedOff.eq (self := inferInstance)) _ fun x => ?_) (View.allAt_nil _ _)
  open_payloads
  simp only [shapeCast_self, slice_lo, slice_hi]
  rfl

/-- One row spread over the rows of a tile. -/
theorem bcast_row (v : S1x256.Idx → α) (h : S1x256.Broadcasts S16x256) :
    broadcastTo S16x256 v h = fun x => v (ValueIdx.ix2 (0 : Fin 1) (x 1)) := by
  funext x
  refine broadcastTo_apply _ _ _ _ fun a => ?_
  match a with
  | ⟨0, _⟩ => rfl
  | ⟨1, _⟩ => rfl

/-- The normalized block: value times its row's statistic times its column's gain. -/
def normB (v : S128x8192.Idx → F .f32) (s : S128x128.Idx → F .f32) (g : S1x8192.Idx → F .f32) : S128x8192.Idx → F .f32 :=
  fun y => FloatOps.mulf (FloatOps.mulf (v y) (s (lane y))) (g (ValueIdx.ix2 (0 : Fin 1) (y 1)))

/-- A tile of the normalized block, from the tiles of its operands. -/
theorem norm_chunk (v : S128x8192.Idx → F .f32) (s : S128x128.Idx → F .f32) (g : S1x8192.Idx → F .f32) (r c : ℕ) (hc : c % 128 = 0)
    (hd : c + 256 ≤ 8192) (x : S16x256.Idx) :
    FloatOps.mulf (FloatOps.mulf (chunk v ![r, c] x) (stat (sz := ![16, 128]) s ![r, 0] (ValueIdx.ix2 (x 0) (laneOf (x 1).val))))
        (g (ValueIdx.ix2 (0 : Fin 1) (colOf (c + (x 1).val))))
      = chunk (normB v s g) ![r, c] x := by
  have b1 : (x 1).val < 256 := (x 1).isLt
  have e : (laneOf (0 + (x 1).val % 128)) = laneOf ((c + (x 1).val) % 8192) := Fin.ext (by
    show (0 + (x 1).val % 128) % 128 = (c + (x 1).val) % 8192 % 128; omega)
  unfold normB chunk stat
  show FloatOps.mulf (FloatOps.mulf _ (s (ValueIdx.ix2 _ (laneOf (0 + (x 1).val % 128))))) _ = _
  rw [e]
  rfl

/-- Two copies of 128 lanes side by side, as a function of the column. -/
theorem concat_lanes16 (v : S16x128.Idx → α) (h : Shape.Concatenates [S16x128, S16x128] S16x256 1) :
    concatenate S16x256 1 [⟨S16x128, v⟩, ⟨S16x128, v⟩] h = fun x => v (ValueIdx.ix2 (x 0) (laneOf (x 1).val)) :=
  funext fun x => concat_lanes v h x

/-- A trip of the second loop stores normalized values that agree with the normalized block where they lie. -/
theorem t2_at7 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole)
    (X_arg8 : BufTy.Contents (Elt F) arg8.view.ty) (k : Fin k0_t2_loop.trips) (f7 : BufTy.Contents (Elt F) arg7.view.ty) (f9 : BufTy.Contents (Elt F) arg9.view.ty) (y : S128x8192.Idx) :
    View.AllAt (tripL_k0_t2 (F := F) 𝒱 c bd i arg1 harg1 arg2 harg2 arg3 harg3 arg4 harg4 arg5 harg5 arg6 harg6 arg7 harg7 arg8 harg8 arg9 harg9 X_arg8 k f7 f9).1 y ((normB (arg7.view.read (Elt F) f7) (arg9.view.read (Elt F) f9) (arg8.view.read (Elt F) X_arg8)) y) := by
  unfold tripL_k0_t2 trip_k0_t2
  dsimp only
  sl_unfold_run_names
  simp only [ld_chunk, ld_stat, ld_gain]
  repeat (refine View.allAt_cons_unit _ _ _ _ _ (row_tile (e := .f32) (normB (arg7.view.read (Elt F) f7) (arg9.view.read (Elt F) f9) (arg8.view.read (Elt F) X_arg8)) _ (16 * k.val) _ (ClosedOff.eq (self := inferInstance)) _ ?_) ?_; · open_payloads; simp only [shapeCast_self, concat_lanes16, bcast_row]; exact funext fun x => norm_chunk _ _ _ _ _ rfl (by decide) x)
  exact View.allAt_nil _ _

/-- A trip of the second loop stores lane maxima that agree with the normalized block's where they lie. -/
theorem t2_at9 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole)
    (X_arg8 : BufTy.Contents (Elt F) arg8.view.ty) (k : Fin k0_t2_loop.trips) (f7 : BufTy.Contents (Elt F) arg7.view.ty) (f9 : BufTy.Contents (Elt F) arg9.view.ty) (y : S128x128.Idx) :
    View.AllAt (tripL_k0_t2 (F := F) 𝒱 c bd i arg1 harg1 arg2 harg2 arg3 harg3 arg4 harg4 arg5 harg5 arg6 harg6 arg7 harg7 arg8 harg8 arg9 harg9 X_arg8 k f7 f9).2 y (lanes FloatOps.maximumf FloatOps.absf (normB (arg7.view.read (Elt F) f7) (arg9.view.read (Elt F) f9) (arg8.view.read (Elt F) X_arg8)) y) := by
  unfold tripL_k0_t2 trip_k0_t2
  dsimp only
  sl_unfold_run_names
  simp only [ld_chunk, ld_stat, ld_gain]
  refine View.allAt_cons_unit _ _ _ _ _ (lanes_tile _ _ _ _ (16 * k.val) (ClosedOff.eq (self := inferInstance)) _ fun x => ?_) (View.allAt_nil _ _)
  refine Eq.trans (b := foldU FloatOps.maximumf FloatOps.absf (fun j n =>
    FloatOps.mulf (FloatOps.mulf (arg7.view.read (Elt F) f7 (ValueIdx.ix2 (rowOf (16 * k.val + (x 0).val)) (colOf (256 * j + n))))
        (arg9.view.read (Elt F) f9 (ValueIdx.ix2 (rowOf (16 * k.val + (x 0).val)) (laneOf (0 + n % 128)))))
      (arg8.view.read (Elt F) X_arg8 (ValueIdx.ix2 (0 : Fin 1) (colOf (256 * j + n))))) (x 1).val 32) ?_ ?_
  · open_payloads
    simp only [shapeCast_self, concat_lanes16, bcast_row, slice_lo, slice_hi]
    rfl
  · refine foldU_congr _ _ (x 1).isLt 32 fun j hj q hq => ?_
    have e : laneOf (0 + q % 128) = laneOf ((256 * j + q) % 8192) := Fin.ext (by
      show (0 + q % 128) % 128 = (256 * j + q) % 8192 % 128; omega)
    rw [e]
    rfl
end Cert.KernelIdeal.Val
end
-- ==== Proof.Blocks.lean ====
module
public import proofs.«01_k».proof.Proof.Trips
public import Idealize.ShloMosaic.Lib.Ring
public import Idealize.ShloMosaic.Lib.VecWindow
@[expose] public section
set_option maxRecDepth 16384
noncomputable section
namespace Cert.KernelIdeal.Val
open Idealize.ShloMosaic Idealize.ShloMosaic.TcCoe Idealize.ShloMosaic.Tactic
open Cert.KernelIdeal Cert.KernelIdeal.Gen

variable {F : FTy → Type} [FloatOps F]

/-- The number of trips of each loop, as the run states it. -/
abbrev n1 : ℕ := Scf.trips k0_t1_loop.lb k0_t1_loop.ub k0_t1_loop.st
/-- The trips of the second loop. -/
abbrev n2 : ℕ := Scf.trips k0_t2_loop.lb k0_t2_loop.ub k0_t2_loop.st
/-- The trips of the third loop. -/
abbrev n3 : ℕ := Scf.trips k0_t3_loop.lb k0_t3_loop.ub k0_t3_loop.st

section Lists
variable {S : Shape} {e : EltTy} {Val : EltTy → Type}

/-- Two lists of pieces with one value at an index have it together. -/
theorem allAt_append {L M : List (View.Piece Val S e)} {y : S.Idx} {v : Val e} (hL : View.AllAt L y v) (hM : View.AllAt M y v) :
    View.AllAt (L ++ M) y v := fun p hp => (List.mem_append.mp hp).elim (hL p) (hM p)

/-- Pieces that lie in given rows. -/
def InRows {m : ℕ} {d : Fin (m + 1) → ℕ} (L : List (View.Piece Val ⟨m + 1, d⟩ e)) (lo hi : ℕ) : Prop :=
  ∀ p ∈ L, ∀ y ∈ p.1.set, lo ≤ (y 0).val ∧ (y 0).val < hi

/-- No store lies in any rows. -/
theorem inRows_nil {m : ℕ} {d : Fin (m + 1) → ℕ} (lo hi : ℕ) : InRows ([] : List (View.Piece Val ⟨m + 1, d⟩ e)) lo hi :=
  fun _ hp => absurd hp List.not_mem_nil

/-- A list of stores lies in rows `lo` to `hi` when its first store does and the rest do. -/
theorem inRows_cons {m : ℕ} {d : Fin (m + 1) → ℕ} (off size : Fin (m + 1) → ℕ) (inb) (w) (L : List (View.Piece Val ⟨m + 1, d⟩ e)) (lo hi : ℕ)
    (h0 : off 0 = lo) (h1 : lo + size 0 = hi) (hL : InRows L lo hi) :
    InRows ((⟨Rect.unit (s := ⟨m + 1, d⟩) off size inb, w⟩ : View.Piece Val ⟨m + 1, d⟩ e) :: L) lo hi := by
  intro p hp y hy
  rcases List.mem_cons.mp hp with rfl | hp
  · have := (Rect.mem_set_unit (inb := inb)).mp hy (0 : Fin (m + 1))
    omega
  · exact hL p hp y hy
end Lists

/-- After the first loop every store into the three buffers agrees with the block values: the residual sums, the same widened, and the lane sums of squares. -/
theorem t1_all (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X1 : BufTy.Contents (Elt F) arg1.view.ty) (X2 : BufTy.Contents (Elt F) arg2.view.ty) : ∀ n, n ≤ k0_t1_loop.trips →
    (∀ y, View.AllAt (pb_k0_t1 (F := F) 𝒱 c bd i arg1 harg1 arg2 harg2 arg3 harg3 arg4 harg4 arg5 harg5 arg6 harg6 arg7 harg7 arg8 harg8 arg9 harg9 X1 X2 n).1 y ((newB (arg1.view.read (Elt F) X1) (arg2.view.read (Elt F) X2)) y)) ∧ (∀ y, View.AllAt (pb_k0_t1 (F := F) 𝒱 c bd i arg1 harg1 arg2 harg2 arg3 harg3 arg4 harg4 arg5 harg5 arg6 harg6 arg7 harg7 arg8 harg8 arg9 harg9 X1 X2 n).2.1 y ((resB (arg1.view.read (Elt F) X1) (arg2.view.read (Elt F) X2)) y))
      ∧ (∀ y, View.AllAt (pb_k0_t1 (F := F) 𝒱 c bd i arg1 harg1 arg2 harg2 arg3 harg3 arg4 harg4 arg5 harg5 arg6 harg6 arg7 harg7 arg8 harg8 arg9 harg9 X1 X2 n).2.2 y (lanes FloatOps.addf (fun z => FloatOps.mulf z z) (resB (arg1.view.read (Elt F) X1) (arg2.view.read (Elt F) X2)) y))
  | 0, _ => ⟨fun y => View.allAt_nil y _, fun y => View.allAt_nil y _, fun y => View.allAt_nil y _⟩
  | n + 1, h => by
    have ih := t1_all 𝒱 c bd i arg1 harg1 arg2 harg2 arg3 harg3 arg4 harg4 arg5 harg5 arg6 harg6 arg7 harg7 arg8 harg8 arg9 harg9 X1 X2 n (Nat.le_of_succ_le h)
    rw [pb_k0_t1_succ 𝒱 c bd i arg1 harg1 arg2 harg2 arg3 harg3 arg4 harg4 arg5 harg5 arg6 harg6 arg7 harg7 arg8 harg8 arg9 harg9 X1 X2 ⟨n, h⟩]
    exact ⟨fun y => allAt_append (t1_at4 𝒱 c bd i arg1 harg1 arg2 harg2 arg3 harg3 arg4 harg4 arg5 harg5 arg6 harg6 arg7 harg7 arg8 harg8 arg9 harg9 X1 X2 ⟨n, h⟩ y) (ih.1 y), fun y => allAt_append (t1_at7 𝒱 c bd i arg1 harg1 arg2 harg2 arg3 harg3 arg4 harg4 arg5 harg5 arg6 harg6 arg7 harg7 arg8 harg8 arg9 harg9 X1 X2 ⟨n, h⟩ y) (ih.2.1 y),
      fun y => allAt_append (t1_at9 𝒱 c bd i arg1 harg1 arg2 harg2 arg3 harg3 arg4 harg4 arg5 harg5 arg6 harg6 arg7 harg7 arg8 harg8 arg9 harg9 X1 X2 ⟨n, h⟩ y) (ih.2.2 y)⟩

/-- The first loop's stores cover the block of residual sums. -/
theorem t1_cover4 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X1 : BufTy.Contents (Elt F) arg1.view.ty) (X2 : BufTy.Contents (Elt F) arg2.view.ty) (y) : ∃ p ∈ (pb_k0_t1 (F := F) 𝒱 c bd i arg1 harg1 arg2 harg2 arg3 harg3 arg4 harg4 arg5 harg5 arg6 harg6 arg7 harg7 arg8 harg8 arg9 harg9 X1 X2 n1).1, y ∈ p.1.set :=
  View.cover_of_tiledL (pb_k0_t1 (F := F) 𝒱 c bd i arg1 harg1 arg2 harg2 arg3 harg3 arg4 harg4 arg5 harg5 arg6 harg6 arg7 harg7 arg8 harg8 arg9 harg9 X1 X2 n1).1 S16x256.size (by sl_kernel_rfl) y
/-- The first loop's stores cover the working block. -/
theorem t1_cover7 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X1 : BufTy.Contents (Elt F) arg1.view.ty) (X2 : BufTy.Contents (Elt F) arg2.view.ty) (y) : ∃ p ∈ (pb_k0_t1 (F := F) 𝒱 c bd i arg1 harg1 arg2 harg2 arg3 harg3 arg4 harg4 arg5 harg5 arg6 harg6 arg7 harg7 arg8 harg8 arg9 harg9 X1 X2 n1).2.1, y ∈ p.1.set :=
  View.cover_of_tiledL (pb_k0_t1 (F := F) 𝒱 c bd i arg1 harg1 arg2 harg2 arg3 harg3 arg4 harg4 arg5 harg5 arg6 harg6 arg7 harg7 arg8 harg8 arg9 harg9 X1 X2 n1).2.1 S16x256.size (by sl_kernel_rfl) y
/-- The first loop's stores cover the row statistics. -/
theorem t1_cover9 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X1 : BufTy.Contents (Elt F) arg1.view.ty) (X2 : BufTy.Contents (Elt F) arg2.view.ty) (y) : ∃ p ∈ (pb_k0_t1 (F := F) 𝒱 c bd i arg1 harg1 arg2 harg2 arg3 harg3 arg4 harg4 arg5 harg5 arg6 harg6 arg7 harg7 arg8 harg8 arg9 harg9 X1 X2 n1).2.2, y ∈ p.1.set :=
  View.cover_of_tiledL (pb_k0_t1 (F := F) 𝒱 c bd i arg1 harg1 arg2 harg2 arg3 harg3 arg4 harg4 arg5 harg5 arg6 harg6 arg7 harg7 arg8 harg8 arg9 harg9 X1 X2 n1).2.2 S16x128.size (by sl_kernel_rfl) y

/-- What the first loop leaves in the residual output. -/
theorem t1_canon4 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X1 : BufTy.Contents (Elt F) arg1.view.ty) (X2 : BufTy.Contents (Elt F) arg2.view.ty) : View.canon (pb_k0_t1 (F := F) 𝒱 c bd i arg1 harg1 arg2 harg2 arg3 harg3 arg4 harg4 arg5 harg5 arg6 harg6 arg7 harg7 arg8 harg8 arg9 harg9 X1 X2 n1).1 = (newB (arg1.view.read (Elt F) X1) (arg2.view.read (Elt F) X2)) :=
  funext fun y => View.canon_eq_of_allAt _ y _ (t1_cover4 𝒱 c bd i arg1 harg1 arg2 harg2 arg3 harg3 arg4 harg4 arg5 harg5 arg6 harg6 arg7 harg7 arg8 harg8 arg9 harg9 X1 X2 y) ((t1_all 𝒱 c bd i arg1 harg1 arg2 harg2 arg3 harg3 arg4 harg4 arg5 harg5 arg6 harg6 arg7 harg7 arg8 harg8 arg9 harg9 X1 X2 _ le_rfl).1 y)
/-- What the first loop leaves in the row buffer. -/
theorem t1_canon7 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X1 : BufTy.Contents (Elt F) arg1.view.ty) (X2 : BufTy.Contents (Elt F) arg2.view.ty) : View.canon (pb_k0_t1 (F := F) 𝒱 c bd i arg1 harg1 arg2 harg2 arg3 harg3 arg4 harg4 arg5 harg5 arg6 harg6 arg7 harg7 arg8 harg8 arg9 harg9 X1 X2 n1).2.1 = (resB (arg1.view.read (Elt F) X1) (arg2.view.read (Elt F) X2)) :=
  funext fun y => View.canon_eq_of_allAt _ y _ (t1_cover7 𝒱 c bd i arg1 harg1 arg2 harg2 arg3 harg3 arg4 harg4 arg5 harg5 arg6 harg6 arg7 harg7 arg8 harg8 arg9 harg9 X1 X2 y) ((t1_all 𝒱 c bd i arg1 harg1 arg2 harg2 arg3 harg3 arg4 harg4 arg5 harg5 arg6 harg6 arg7 harg7 arg8 harg8 arg9 harg9 X1 X2 _ le_rfl).2.1 y)
/-- What the first loop leaves in the statistics buffer: the sums of squares by lane. -/
theorem t1_canon9 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X1 : BufTy.Contents (Elt F) arg1.view.ty) (X2 : BufTy.Contents (Elt F) arg2.view.ty) : View.canon (pb_k0_t1 (F := F) 𝒱 c bd i arg1 harg1 arg2 harg2 arg3 harg3 arg4 harg4 arg5 harg5 arg6 harg6 arg7 harg7 arg8 harg8 arg9 harg9 X1 X2 n1).2.2 = lanes FloatOps.addf (fun z => FloatOps.mulf z z) (resB (arg1.view.read (Elt F) X1) (arg2.view.read (Elt F) X2)) :=
  funext fun y => View.canon_eq_of_allAt _ y _ (t1_cover9 𝒱 c bd i arg1 harg1 arg2 harg2 arg3 harg3 arg4 harg4 arg5 harg5 arg6 harg6 arg7 harg7 arg8 harg8 arg9 harg9 X1 X2 y) ((t1_all 𝒱 c bd i arg1 harg1 arg2 harg2 arg3 harg3 arg4 harg4 arg5 harg5 arg6 harg6 arg7 harg7 arg8 harg8 arg9 harg9 X1 X2 _ le_rfl).2.2 y)

/-- After the third loop every store of codes agrees with the block of codes. -/
theorem t3_all (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X7 : BufTy.Contents (Elt F) arg7.view.ty) (X9 : BufTy.Contents (Elt F) arg9.view.ty) : ∀ n, n ≤ k0_t3_loop.trips →
    ∀ y, View.AllAt (pb_k0_t3 (F := F) 𝒱 c bd i arg1 harg1 arg2 harg2 arg3 harg3 arg4 harg4 arg5 harg5 arg6 harg6 arg7 harg7 arg8 harg8 arg9 harg9 X7 X9 n) y (code (arg7.view.read (Elt F) X7 y) (arg9.view.read (Elt F) X9 (lane y)))
  | 0, _ => fun y => View.allAt_nil y _
  | n + 1, h => by
    have ih := t3_all 𝒱 c bd i arg1 harg1 arg2 harg2 arg3 harg3 arg4 harg4 arg5 harg5 arg6 harg6 arg7 harg7 arg8 harg8 arg9 harg9 X7 X9 n (Nat.le_of_succ_le h)
    rw [pb_k0_t3_succ 𝒱 c bd i arg1 harg1 arg2 harg2 arg3 harg3 arg4 harg4 arg5 harg5 arg6 harg6 arg7 harg7 arg8 harg8 arg9 harg9 X7 X9 ⟨n, h⟩]
    exact fun y => allAt_append (t3_at 𝒱 c bd i arg1 harg1 arg2 harg2 arg3 harg3 arg4 harg4 arg5 harg5 arg6 harg6 arg7 harg7 arg8 harg8 arg9 harg9 X7 X9 ⟨n, h⟩ y) (ih y)

/-- The third loop's stores cover the block of codes. -/
theorem t3_cover (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X7 : BufTy.Contents (Elt F) arg7.view.ty) (X9 : BufTy.Contents (Elt F) arg9.view.ty) (y) : ∃ p ∈ (pb_k0_t3 (F := F) 𝒱 c bd i arg1 harg1 arg2 harg2 arg3 harg3 arg4 harg4 arg5 harg5 arg6 harg6 arg7 harg7 arg8 harg8 arg9 harg9 X7 X9 n3), y ∈ p.1.set :=
  View.cover_of_tiledL (pb_k0_t3 (F := F) 𝒱 c bd i arg1 harg1 arg2 harg2 arg3 harg3 arg4 harg4 arg5 harg5 arg6 harg6 arg7 harg7 arg8 harg8 arg9 harg9 X7 X9 n3) S32x256.size (by sl_kernel_rfl) y

/-- What the third loop leaves in the codes output. -/
theorem t3_canon (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X7 : BufTy.Contents (Elt F) arg7.view.ty) (X9 : BufTy.Contents (Elt F) arg9.view.ty) :
    View.canon (pb_k0_t3 (F := F) 𝒱 c bd i arg1 harg1 arg2 harg2 arg3 harg3 arg4 harg4 arg5 harg5 arg6 harg6 arg7 harg7 arg8 harg8 arg9 harg9 X7 X9 n3) = fun y => code (arg7.view.read (Elt F) X7 y) (arg9.view.read (Elt F) X9 (lane y)) :=
  funext fun y => View.canon_eq_of_allAt _ y _ (t3_cover 𝒱 c bd i arg1 harg1 arg2 harg2 arg3 harg3 arg4 harg4 arg5 harg5 arg6 harg6 arg7 harg7 arg8 harg8 arg9 harg9 X7 X9 y) (t3_all 𝒱 c bd i arg1 harg1 arg2 harg2 arg3 harg3 arg4 harg4 arg5 harg5 arg6 harg6 arg7 harg7 arg8 harg8 arg9 harg9 X7 X9 _ le_rfl y)

/-- A trip of the second loop stores into the working block only within its own 16 rows. -/
theorem t2_rows7 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X8 : BufTy.Contents (Elt F) arg8.view.ty) (k : Fin k0_t2_loop.trips) (f7 : BufTy.Contents (Elt F) arg7.view.ty) (f9 : BufTy.Contents (Elt F) arg9.view.ty) :
    InRows (m := 1) (tripL_k0_t2 (F := F) 𝒱 c bd i arg1 harg1 arg2 harg2 arg3 harg3 arg4 harg4 arg5 harg5 arg6 harg6 arg7 harg7 arg8 harg8 arg9 harg9 X8 k f7 f9).1 (16 * k.val) (16 * k.val + 16) := by
  unfold tripL_k0_t2 trip_k0_t2
  dsimp only
  repeat (refine inRows_cons (m := 1) _ _ _ _ _ _ _ (congrFun (ClosedOff.eq (self := inferInstance)) 0) rfl ?_)
  exact inRows_nil (m := 1) _ _

/-- A trip of the second loop stores row statistics only within its own 16 rows. -/
theorem t2_rows9 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X8 : BufTy.Contents (Elt F) arg8.view.ty) (k : Fin k0_t2_loop.trips) (f7 : BufTy.Contents (Elt F) arg7.view.ty) (f9 : BufTy.Contents (Elt F) arg9.view.ty) :
    InRows (m := 1) (tripL_k0_t2 (F := F) 𝒱 c bd i arg1 harg1 arg2 harg2 arg3 harg3 arg4 harg4 arg5 harg5 arg6 harg6 arg7 harg7 arg8 harg8 arg9 harg9 X8 k f7 f9).2 (16 * k.val) (16 * k.val + 16) := by
  unfold tripL_k0_t2 trip_k0_t2
  dsimp only
  repeat (refine inRows_cons (m := 1) _ _ _ _ _ _ _ (congrFun (ClosedOff.eq (self := inferInstance)) 0) rfl ?_)
  exact inRows_nil (m := 1) _ _

/-- A piece of the first trips of the second loop is a piece of one of them. -/
theorem t2_mem (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X8 : BufTy.Contents (Elt F) arg8.view.ty) (G7 : BufTy.Contents (Elt F) arg7.view.ty) (G9 : BufTy.Contents (Elt F) arg9.view.ty) : ∀ n, n ≤ k0_t2_loop.trips →
    (∀ p ∈ (pb_k0_t2 (F := F) 𝒱 c bd i arg1 harg1 arg2 harg2 arg3 harg3 arg4 harg4 arg5 harg5 arg6 harg6 arg7 harg7 arg8 harg8 arg9 harg9 X8 G7 G9 n).1, ∃ k : Fin k0_t2_loop.trips, k.val < n ∧ p ∈ (tripL_k0_t2 (F := F) 𝒱 c bd i arg1 harg1 arg2 harg2 arg3 harg3 arg4 harg4 arg5 harg5 arg6 harg6 arg7 harg7 arg8 harg8 arg9 harg9 X8 k (arg7.view.writes (Elt F) G7 (pb_k0_t2 (F := F) 𝒱 c bd i arg1 harg1 arg2 harg2 arg3 harg3 arg4 harg4 arg5 harg5 arg6 harg6 arg7 harg7 arg8 harg8 arg9 harg9 X8 G7 G9 k.val).1) (arg9.view.writes (Elt F) G9 (pb_k0_t2 (F := F) 𝒱 c bd i arg1 harg1 arg2 harg2 arg3 harg3 arg4 harg4 arg5 harg5 arg6 harg6 arg7 harg7 arg8 harg8 arg9 harg9 X8 G7 G9 k.val).2)).1)
      ∧ (∀ p ∈ (pb_k0_t2 (F := F) 𝒱 c bd i arg1 harg1 arg2 harg2 arg3 harg3 arg4 harg4 arg5 harg5 arg6 harg6 arg7 harg7 arg8 harg8 arg9 harg9 X8 G7 G9 n).2, ∃ k : Fin k0_t2_loop.trips, k.val < n ∧ p ∈ (tripL_k0_t2 (F := F) 𝒱 c bd i arg1 harg1 arg2 harg2 arg3 harg3 arg4 harg4 arg5 harg5 arg6 harg6 arg7 harg7 arg8 harg8 arg9 harg9 X8 k (arg7.view.writes (Elt F) G7 (pb_k0_t2 (F := F) 𝒱 c bd i arg1 harg1 arg2 harg2 arg3 harg3 arg4 harg4 arg5 harg5 arg6 harg6 arg7 harg7 arg8 harg8 arg9 harg9 X8 G7 G9 k.val).1) (arg9.view.writes (Elt F) G9 (pb_k0_t2 (F := F) 𝒱 c bd i arg1 harg1 arg2 harg2 arg3 harg3 arg4 harg4 arg5 harg5 arg6 harg6 arg7 harg7 arg8 harg8 arg9 harg9 X8 G7 G9 k.val).2)).2)
  | 0, _ => ⟨fun p hp => absurd hp List.not_mem_nil, fun p hp => absurd hp List.not_mem_nil⟩
  | n + 1, h => by
    have ih := t2_mem 𝒱 c bd i arg1 harg1 arg2 harg2 arg3 harg3 arg4 harg4 arg5 harg5 arg6 harg6 arg7 harg7 arg8 harg8 arg9 harg9 X8 G7 G9 n (Nat.le_of_succ_le h)
    rw [pb_k0_t2_succ 𝒱 c bd i arg1 harg1 arg2 harg2 arg3 harg3 arg4 harg4 arg5 harg5 arg6 harg6 arg7 harg7 arg8 harg8 arg9 harg9 X8 G7 G9 ⟨n, h⟩]
    refine ⟨fun p hp => ?_, fun p hp => ?_⟩
    · rcases List.mem_append.mp hp with hp | hp
      · exact ⟨⟨n, h⟩, Nat.lt_succ_self n, hp⟩
      · obtain ⟨k, hk, hp⟩ := ih.1 p hp
        exact ⟨k, Nat.lt_succ_of_lt hk, hp⟩
    · rcases List.mem_append.mp hp with hp | hp
      · exact ⟨⟨n, h⟩, Nat.lt_succ_self n, hp⟩
      · obtain ⟨k, hk, hp⟩ := ih.2 p hp
        exact ⟨k, Nat.lt_succ_of_lt hk, hp⟩

/-- The second loop's stores cover the working block. -/
theorem t2_cover7 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X8 : BufTy.Contents (Elt F) arg8.view.ty) (G7 : BufTy.Contents (Elt F) arg7.view.ty) (G9 : BufTy.Contents (Elt F) arg9.view.ty) (y) : ∃ p ∈ (pb_k0_t2 (F := F) 𝒱 c bd i arg1 harg1 arg2 harg2 arg3 harg3 arg4 harg4 arg5 harg5 arg6 harg6 arg7 harg7 arg8 harg8 arg9 harg9 X8 G7 G9 n2).1, y ∈ p.1.set :=
  View.cover_of_tiledL (pb_k0_t2 (F := F) 𝒱 c bd i arg1 harg1 arg2 harg2 arg3 harg3 arg4 harg4 arg5 harg5 arg6 harg6 arg7 harg7 arg8 harg8 arg9 harg9 X8 G7 G9 n2).1 S16x256.size (by sl_kernel_rfl) y
/-- The second loop's stores cover the row statistics. -/
theorem t2_cover9 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X8 : BufTy.Contents (Elt F) arg8.view.ty) (G7 : BufTy.Contents (Elt F) arg7.view.ty) (G9 : BufTy.Contents (Elt F) arg9.view.ty) (y) : ∃ p ∈ (pb_k0_t2 (F := F) 𝒱 c bd i arg1 harg1 arg2 harg2 arg3 harg3 arg4 harg4 arg5 harg5 arg6 harg6 arg7 harg7 arg8 harg8 arg9 harg9 X8 G7 G9 n2).2, y ∈ p.1.set :=
  View.cover_of_tiledL (pb_k0_t2 (F := F) 𝒱 c bd i arg1 harg1 arg2 harg2 arg3 harg3 arg4 harg4 arg5 harg5 arg6 harg6 arg7 harg7 arg8 harg8 arg9 harg9 X8 G7 G9 n2).2 S16x128.size (by sl_kernel_rfl) y

/-- Each trip of the second loop covers its own rows. -/
theorem t2_trip_cover (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X8 : BufTy.Contents (Elt F) arg8.view.ty) (G7 : BufTy.Contents (Elt F) arg7.view.ty) (G9 : BufTy.Contents (Elt F) arg9.view.ty) (k : Fin k0_t2_loop.trips) :
    (∀ y : S128x8192.Idx, 16 * k.val ≤ (y 0).val → (y 0).val < 16 * k.val + 16 → ∃ p ∈ (tripL_k0_t2 (F := F) 𝒱 c bd i arg1 harg1 arg2 harg2 arg3 harg3 arg4 harg4 arg5 harg5 arg6 harg6 arg7 harg7 arg8 harg8 arg9 harg9 X8 k (arg7.view.writes (Elt F) G7 (pb_k0_t2 (F := F) 𝒱 c bd i arg1 harg1 arg2 harg2 arg3 harg3 arg4 harg4 arg5 harg5 arg6 harg6 arg7 harg7 arg8 harg8 arg9 harg9 X8 G7 G9 k.val).1) (arg9.view.writes (Elt F) G9 (pb_k0_t2 (F := F) 𝒱 c bd i arg1 harg1 arg2 harg2 arg3 harg3 arg4 harg4 arg5 harg5 arg6 harg6 arg7 harg7 arg8 harg8 arg9 harg9 X8 G7 G9 k.val).2)).1, y ∈ p.1.set)
      ∧ (∀ y : S128x128.Idx, 16 * k.val ≤ (y 0).val → (y 0).val < 16 * k.val + 16 → ∃ p ∈ (tripL_k0_t2 (F := F) 𝒱 c bd i arg1 harg1 arg2 harg2 arg3 harg3 arg4 harg4 arg5 harg5 arg6 harg6 arg7 harg7 arg8 harg8 arg9 harg9 X8 k (arg7.view.writes (Elt F) G7 (pb_k0_t2 (F := F) 𝒱 c bd i arg1 harg1 arg2 harg2 arg3 harg3 arg4 harg4 arg5 harg5 arg6 harg6 arg7 harg7 arg8 harg8 arg9 harg9 X8 G7 G9 k.val).1) (arg9.view.writes (Elt F) G9 (pb_k0_t2 (F := F) 𝒱 c bd i arg1 harg1 arg2 harg2 arg3 harg3 arg4 harg4 arg5 harg5 arg6 harg6 arg7 harg7 arg8 harg8 arg9 harg9 X8 G7 G9 k.val).2)).2, y ∈ p.1.set) := by
  constructor
  · intro y h0 h1
    obtain ⟨p, hp, hy⟩ := t2_cover7 𝒱 c bd i arg1 harg1 arg2 harg2 arg3 harg3 arg4 harg4 arg5 harg5 arg6 harg6 arg7 harg7 arg8 harg8 arg9 harg9 X8 G7 G9 y
    obtain ⟨k', -, hp'⟩ := (t2_mem 𝒱 c bd i arg1 harg1 arg2 harg2 arg3 harg3 arg4 harg4 arg5 harg5 arg6 harg6 arg7 harg7 arg8 harg8 arg9 harg9 X8 G7 G9 _ le_rfl).1 p hp
    have hr := t2_rows7 𝒱 c bd i arg1 harg1 arg2 harg2 arg3 harg3 arg4 harg4 arg5 harg5 arg6 harg6 arg7 harg7 arg8 harg8 arg9 harg9 X8 k' _ _ p hp' y hy
    have hk : k' = k := Fin.ext (by omega)
    subst hk
    exact ⟨p, hp', hy⟩
  · intro y h0 h1
    obtain ⟨p, hp, hy⟩ := t2_cover9 𝒱 c bd i arg1 harg1 arg2 harg2 arg3 harg3 arg4 harg4 arg5 harg5 arg6 harg6 arg7 harg7 arg8 harg8 arg9 harg9 X8 G7 G9 y
    obtain ⟨k', -, hp'⟩ := (t2_mem 𝒱 c bd i arg1 harg1 arg2 harg2 arg3 harg3 arg4 harg4 arg5 harg5 arg6 harg6 arg7 harg7 arg8 harg8 arg9 harg9 X8 G7 G9 _ le_rfl).2 p hp
    have hr := t2_rows9 𝒱 c bd i arg1 harg1 arg2 harg2 arg3 harg3 arg4 harg4 arg5 harg5 arg6 harg6 arg7 harg7 arg8 harg8 arg9 harg9 X8 k' _ _ p hp' y hy
    have hk : k' = k := Fin.ext (by omega)
    subst hk
    exact ⟨p, hp', hy⟩

/-- The second loop after `n` trips: the rows done hold the normalized values and their largest magnitudes by lane, the rest is
    as it was. -/
theorem t2_inv (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X8 : BufTy.Contents (Elt F) arg8.view.ty) (G7 : BufTy.Contents (Elt F) arg7.view.ty) (G9 : BufTy.Contents (Elt F) arg9.view.ty) : ∀ n, n ≤ k0_t2_loop.trips →
    (∀ y : S128x8192.Idx, arg7.view.read (Elt F) (arg7.view.writes (Elt F) G7 (pb_k0_t2 (F := F) 𝒱 c bd i arg1 harg1 arg2 harg2 arg3 harg3 arg4 harg4 arg5 harg5 arg6 harg6 arg7 harg7 arg8 harg8 arg9 harg9 X8 G7 G9 n).1) y
        = if (y 0).val < 16 * n then (normB (arg7.view.read (Elt F) G7) (arg9.view.read (Elt F) G9) (arg8.view.read (Elt F) X8)) y else arg7.view.read (Elt F) G7 y)
      ∧ (∀ y : S128x128.Idx, arg9.view.read (Elt F) (arg9.view.writes (Elt F) G9 (pb_k0_t2 (F := F) 𝒱 c bd i arg1 harg1 arg2 harg2 arg3 harg3 arg4 harg4 arg5 harg5 arg6 harg6 arg7 harg7 arg8 harg8 arg9 harg9 X8 G7 G9 n).2) y
        = if (y 0).val < 16 * n then (lanes FloatOps.maximumf FloatOps.absf (normB (arg7.view.read (Elt F) G7) (arg9.view.read (Elt F) G9) (arg8.view.read (Elt F) X8))) y else arg9.view.read (Elt F) G9 y)
  | 0, _ => ⟨fun y => by rw [if_neg (by omega)]; rfl, fun y => by rw [if_neg (by omega)]; rfl⟩
  | n + 1, h => by
    obtain ⟨ih7, ih9⟩ := t2_inv 𝒱 c bd i arg1 harg1 arg2 harg2 arg3 harg3 arg4 harg4 arg5 harg5 arg6 harg6 arg7 harg7 arg8 harg8 arg9 harg9 X8 G7 G9 n (Nat.le_of_succ_le h)
    have cov := t2_trip_cover 𝒱 c bd i arg1 harg1 arg2 harg2 arg3 harg3 arg4 harg4 arg5 harg5 arg6 harg6 arg7 harg7 arg8 harg8 arg9 harg9 X8 G7 G9 ⟨n, h⟩
    -- on the trip's own rows the buffers are still as the loop found them
    have hN : ∀ y : S128x8192.Idx, 16 * n ≤ (y 0).val →
        normB (arg7.view.read (Elt F) (arg7.view.writes (Elt F) G7 (pb_k0_t2 (F := F) 𝒱 c bd i arg1 harg1 arg2 harg2 arg3 harg3 arg4 harg4 arg5 harg5 arg6 harg6 arg7 harg7 arg8 harg8 arg9 harg9 X8 G7 G9 n).1)) (arg9.view.read (Elt F) (arg9.view.writes (Elt F) G9 (pb_k0_t2 (F := F) 𝒱 c bd i arg1 harg1 arg2 harg2 arg3 harg3 arg4 harg4 arg5 harg5 arg6 harg6 arg7 harg7 arg8 harg8 arg9 harg9 X8 G7 G9 n).2))
          (arg8.view.read (Elt F) X8) y = (normB (arg7.view.read (Elt F) G7) (arg9.view.read (Elt F) G9) (arg8.view.read (Elt F) X8)) y := by
      intro y hy
      unfold normB
      rw [ih7 y, ih9 (lane y), if_neg (by omega), if_neg (by show ¬ (y 0).val < _; omega)]
    rw [pb_k0_t2_succ 𝒱 c bd i arg1 harg1 arg2 harg2 arg3 harg3 arg4 harg4 arg5 harg5 arg6 harg6 arg7 harg7 arg8 harg8 arg9 harg9 X8 G7 G9 ⟨n, h⟩]
    constructor
    · intro y
      show arg7.view.read (Elt F) (arg7.view.writes (Elt F) G7 (_ ++ _)) y = _
      rw [View.writes_append]
      by_cases hy : 16 * n ≤ (y 0).val ∧ (y 0).val < 16 * n + 16
      · have cv := cov.1 y hy.1 hy.2
        rw [View.read_writes_apply_eq_canon _ _ _ _ cv, View.canon_eq_of_allAt _ _ _ cv (t2_at7 𝒱 c bd i arg1 harg1 arg2 harg2 arg3 harg3 arg4 harg4 arg5 harg5 arg6 harg6 arg7 harg7 arg8 harg8 arg9 harg9 X8 ⟨n, h⟩ _ _ y), hN y hy.1,
          if_pos (by omega)]
      · rw [View.read_writes_apply_of_forall_not_mem _ _ _ _ fun p hp hm => hy (t2_rows7 𝒱 c bd i arg1 harg1 arg2 harg2 arg3 harg3 arg4 harg4 arg5 harg5 arg6 harg6 arg7 harg7 arg8 harg8 arg9 harg9 X8 ⟨n, h⟩ _ _ p hp y hm), ih7 y]
        by_cases h' : (y 0).val < 16 * n
        · rw [if_pos h', if_pos (by omega)]
        · rw [if_neg h', if_neg (by omega)]
    · intro y
      show arg9.view.read (Elt F) (arg9.view.writes (Elt F) G9 (_ ++ _)) y = _
      rw [View.writes_append]
      by_cases hy : 16 * n ≤ (y 0).val ∧ (y 0).val < 16 * n + 16
      · have cv := cov.2 y hy.1 hy.2
        rw [View.read_writes_apply_eq_canon _ _ _ _ cv, View.canon_eq_of_allAt _ _ _ cv (t2_at9 𝒱 c bd i arg1 harg1 arg2 harg2 arg3 harg3 arg4 harg4 arg5 harg5 arg6 harg6 arg7 harg7 arg8 harg8 arg9 harg9 X8 ⟨n, h⟩ _ _ y),
          if_pos (by omega)]
        unfold lanes fold
        refine foldU_congr _ _ (y 1).isLt 32 fun j _ q _ => hN _ hy.1
      · rw [View.read_writes_apply_of_forall_not_mem _ _ _ _ fun p hp hm => hy (t2_rows9 𝒱 c bd i arg1 harg1 arg2 harg2 arg3 harg3 arg4 harg4 arg5 harg5 arg6 harg6 arg7 harg7 arg8 harg8 arg9 harg9 X8 ⟨n, h⟩ _ _ p hp y hm), ih9 y]
        by_cases h' : (y 0).val < 16 * n
        · rw [if_pos h', if_pos (by omega)]
        · rw [if_neg h', if_neg (by omega)]

/-- What the second loop leaves in the row buffer: the normalized block. -/
theorem t2_read7 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X8 : BufTy.Contents (Elt F) arg8.view.ty) (G7 : BufTy.Contents (Elt F) arg7.view.ty) (G9 : BufTy.Contents (Elt F) arg9.view.ty) : arg7.view.read (Elt F) (arg7.view.writes (Elt F) G7 (pb_k0_t2 (F := F) 𝒱 c bd i arg1 harg1 arg2 harg2 arg3 harg3 arg4 harg4 arg5 harg5 arg6 harg6 arg7 harg7 arg8 harg8 arg9 harg9 X8 G7 G9 n2).1) = (normB (arg7.view.read (Elt F) G7) (arg9.view.read (Elt F) G9) (arg8.view.read (Elt F) X8)) :=
  funext fun y => ((t2_inv 𝒱 c bd i arg1 harg1 arg2 harg2 arg3 harg3 arg4 harg4 arg5 harg5 arg6 harg6 arg7 harg7 arg8 harg8 arg9 harg9 X8 G7 G9 n2 le_rfl).1 y).trans (if_pos (by have := (y 0).isLt; exact this))

/-- What the second loop leaves in the statistics buffer: the largest magnitudes by lane. -/
theorem t2_read9 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X8 : BufTy.Contents (Elt F) arg8.view.ty) (G7 : BufTy.Contents (Elt F) arg7.view.ty) (G9 : BufTy.Contents (Elt F) arg9.view.ty) : arg9.view.read (Elt F) (arg9.view.writes (Elt F) G9 (pb_k0_t2 (F := F) 𝒱 c bd i arg1 harg1 arg2 harg2 arg3 harg3 arg4 harg4 arg5 harg5 arg6 harg6 arg7 harg7 arg8 harg8 arg9 harg9 X8 G7 G9 n2).2) = (lanes FloatOps.maximumf FloatOps.absf (normB (arg7.view.read (Elt F) G7) (arg9.view.read (Elt F) G9) (arg8.view.read (Elt F) X8))) :=
  funext fun y => ((t2_inv 𝒱 c bd i arg1 harg1 arg2 harg2 arg3 harg3 arg4 harg4 arg5 harg5 arg6 harg6 arg7 harg7 arg8 harg8 arg9 harg9 X8 G7 G9 n2 le_rfl).2 y).trans (if_pos (by have := (y 0).isLt; exact this))

/-- The residual output after the first loop, whatever it held before. -/
theorem t1_read4 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X1 : BufTy.Contents (Elt F) arg1.view.ty) (X2 : BufTy.Contents (Elt F) arg2.view.ty) (f) : arg4.view.read (Elt F) (arg4.view.writes (Elt F) f (pb_k0_t1 (F := F) 𝒱 c bd i arg1 harg1 arg2 harg2 arg3 harg3 arg4 harg4 arg5 harg5 arg6 harg6 arg7 harg7 arg8 harg8 arg9 harg9 X1 X2 n1).1) = (newB (arg1.view.read (Elt F) X1) (arg2.view.read (Elt F) X2)) :=
  (View.read_writes_eq_canon _ _ _ (t1_cover4 𝒱 c bd i arg1 harg1 arg2 harg2 arg3 harg3 arg4 harg4 arg5 harg5 arg6 harg6 arg7 harg7 arg8 harg8 arg9 harg9 X1 X2)).trans (t1_canon4 𝒱 c bd i arg1 harg1 arg2 harg2 arg3 harg3 arg4 harg4 arg5 harg5 arg6 harg6 arg7 harg7 arg8 harg8 arg9 harg9 X1 X2)
/-- The row buffer after the first loop. -/
theorem t1_read7 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X1 : BufTy.Contents (Elt F) arg1.view.ty) (X2 : BufTy.Contents (Elt F) arg2.view.ty) (f) : arg7.view.read (Elt F) (arg7.view.writes (Elt F) f (pb_k0_t1 (F := F) 𝒱 c bd i arg1 harg1 arg2 harg2 arg3 harg3 arg4 harg4 arg5 harg5 arg6 harg6 arg7 harg7 arg8 harg8 arg9 harg9 X1 X2 n1).2.1) = (resB (arg1.view.read (Elt F) X1) (arg2.view.read (Elt F) X2)) :=
  (View.read_writes_eq_canon _ _ _ (t1_cover7 𝒱 c bd i arg1 harg1 arg2 harg2 arg3 harg3 arg4 harg4 arg5 harg5 arg6 harg6 arg7 harg7 arg8 harg8 arg9 harg9 X1 X2)).trans (t1_canon7 𝒱 c bd i arg1 harg1 arg2 harg2 arg3 harg3 arg4 harg4 arg5 harg5 arg6 harg6 arg7 harg7 arg8 harg8 arg9 harg9 X1 X2)
/-- The statistics buffer after the first loop. -/
theorem t1_read9 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X1 : BufTy.Contents (Elt F) arg1.view.ty) (X2 : BufTy.Contents (Elt F) arg2.view.ty) (f) : arg9.view.read (Elt F) (arg9.view.writes (Elt F) f (pb_k0_t1 (F := F) 𝒱 c bd i arg1 harg1 arg2 harg2 arg3 harg3 arg4 harg4 arg5 harg5 arg6 harg6 arg7 harg7 arg8 harg8 arg9 harg9 X1 X2 n1).2.2)
    = lanes FloatOps.addf (fun z => FloatOps.mulf z z) (resB (arg1.view.read (Elt F) X1) (arg2.view.read (Elt F) X2)) :=
  (View.read_writes_eq_canon _ _ _ (t1_cover9 𝒱 c bd i arg1 harg1 arg2 harg2 arg3 harg3 arg4 harg4 arg5 harg5 arg6 harg6 arg7 harg7 arg8 harg8 arg9 harg9 X1 X2)).trans (t1_canon9 𝒱 c bd i arg1 harg1 arg2 harg2 arg3 harg3 arg4 harg4 arg5 harg5 arg6 harg6 arg7 harg7 arg8 harg8 arg9 harg9 X1 X2)
/-- The codes output after the third loop. -/
theorem t3_read5 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X7 : BufTy.Contents (Elt F) arg7.view.ty) (X9 : BufTy.Contents (Elt F) arg9.view.ty) (f) :
    arg5.view.read (Elt F) (arg5.view.writes (Elt F) f (pb_k0_t3 (F := F) 𝒱 c bd i arg1 harg1 arg2 harg2 arg3 harg3 arg4 harg4 arg5 harg5 arg6 harg6 arg7 harg7 arg8 harg8 arg9 harg9 X7 X9 n3)) = fun y => code (arg7.view.read (Elt F) X7 y) (arg9.view.read (Elt F) X9 (lane y)) :=
  (View.read_writes_eq_canon _ _ _ (t3_cover 𝒱 c bd i arg1 harg1 arg2 harg2 arg3 harg3 arg4 harg4 arg5 harg5 arg6 harg6 arg7 harg7 arg8 harg8 arg9 harg9 X7 X9)).trans (t3_canon 𝒱 c bd i arg1 harg1 arg2 harg2 arg3 harg3 arg4 harg4 arg5 harg5 arg6 harg6 arg7 harg7 arg8 harg8 arg9 harg9 X7 X9)

section Whole
variable {sig' : RefSig} {κ : Kind} {sp : Space} {S : Shape} {e : EltTy} {Val : EltTy → Type} [∀ e, Nonempty (Val e)]

/-- After a store of a whole block the block reads as stored. -/
theorem read_whole (v : View sig' κ sp S e) (f : v.ty.Contents Val) {off : Fin S.rank → ℕ} (inb : ∀ a, off a + S.size a ≤ S.size a)
    (w : S.Idx → Val e) (L : List (View.Piece Val S e)) :
    v.read Val (v.writes Val f ((⟨Rect.unit off S.size inb, w⟩ : View.Piece Val S e) :: L)) = w := by
  funext y
  have h := View.read_writes_cons_emb (v := v) (f := f) (Rect.unit off S.size inb) w L y
  rwa [Rect.emb_unit_full] at h

/-- A load of a whole block reads its contents. -/
theorem ld_whole (v : View sig' κ sp S e) (f : v.ty.Contents Val) {off : Fin S.rank → ℕ} (inb : ∀ a, off a + S.size a ≤ S.size a) :
    v.readAt Val (Rect.unit off S.size inb).toLoadRect f = v.read Val f := by
  funext y
  rw [View.readAt_eq_ld]
  exact congrArg (v.read Val f) (Rect.emb_unit_full inb y)
end Whole

/-- The sums of squares by lane of a block. -/
def stat1 (x0 x1 : S128x8192.Idx → F .bf16) : S128x128.Idx → F .f32 := lanes FloatOps.addf (fun z => FloatOps.mulf z z) (resB x0 x1)
/-- The normalized block with gain `g`. -/
def normV (x0 x1 : S128x8192.Idx → F .bf16) (g : S1x8192.Idx → F .f32) : S128x8192.Idx → F .f32 :=
  normB (resB x0 x1) (k0_pay246 (stat1 x0 x1)) g
/-- The largest magnitudes by lane of the normalized block. -/
def stat2 (x0 x1 : S128x8192.Idx → F .bf16) (g : S1x8192.Idx → F .f32) : S128x128.Idx → F .f32 :=
  lanes FloatOps.maximumf FloatOps.absf (normV x0 x1 g)
/-- The statistics the first loop leaves, as the body loads them. -/
theorem ld_stat1 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X1 : BufTy.Contents (Elt F) arg1.view.ty) (X2 : BufTy.Contents (Elt F) arg2.view.ty) {x0 x1 : S128x8192.Idx → F .bf16} (h0 : arg1.view.read (Elt F) X1 = x0) (h1 : arg2.view.read (Elt F) X2 = x1) (f9) (inb : ∀ a, (![0, 0] : Fin S128x128.rank → ℕ) a + S128x128.size a ≤ S128x128.size a) :
    arg9.view.readAt (Elt F) (Rect.unit (s := S128x128) ![0, 0] S128x128.size inb).toLoadRect (arg9.view.writes (Elt F) f9 (pb_k0_t1 (F := F) 𝒱 c bd i arg1 harg1 arg2 harg2 arg3 harg3 arg4 harg4 arg5 harg5 arg6 harg6 arg7 harg7 arg8 harg8 arg9 harg9 X1 X2 n1).2.2) = stat1 x0 x1 := by
  rw [ld_whole, t1_read9, h0, h1]; rfl

/-- The row buffer after the second loop. -/
theorem read7_end (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X1 : BufTy.Contents (Elt F) arg1.view.ty) (X2 : BufTy.Contents (Elt F) arg2.view.ty) {x0 x1 : S128x8192.Idx → F .bf16} {g : S1x8192.Idx → F .f32} (h0 : arg1.view.read (Elt F) X1 = x0) (h1 : arg2.view.read (Elt F) X2 = x1) (X8 : BufTy.Contents (Elt F) arg8.view.ty) (h8 : arg8.view.read (Elt F) X8 = g) (f7) (G9 : BufTy.Contents (Elt F) arg9.view.ty) (h9 : arg9.view.read (Elt F) G9 = k0_pay246 (stat1 x0 x1)) :
    arg7.view.read (Elt F) (arg7.view.writes (Elt F) f7 ((pb_k0_t2 (F := F) 𝒱 c bd i arg1 harg1 arg2 harg2 arg3 harg3 arg4 harg4 arg5 harg5 arg6 harg6 arg7 harg7 arg8 harg8 arg9 harg9 X8 (arg7.view.writes (Elt F) f7 (pb_k0_t1 (F := F) 𝒱 c bd i arg1 harg1 arg2 harg2 arg3 harg3 arg4 harg4 arg5 harg5 arg6 harg6 arg7 harg7 arg8 harg8 arg9 harg9 X1 X2 n1).2.1) G9 n2).1 ++ (pb_k0_t1 (F := F) 𝒱 c bd i arg1 harg1 arg2 harg2 arg3 harg3 arg4 harg4 arg5 harg5 arg6 harg6 arg7 harg7 arg8 harg8 arg9 harg9 X1 X2 n1).2.1)) = normV x0 x1 g := by
  rw [View.writes_append, t2_read7, t1_read7, h0, h1, h8, h9]; rfl

/-- The statistics the second loop leaves, as the body loads them. -/
theorem ld_stat2 (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X1 : BufTy.Contents (Elt F) arg1.view.ty) (X2 : BufTy.Contents (Elt F) arg2.view.ty) {x0 x1 : S128x8192.Idx → F .bf16} {g : S1x8192.Idx → F .f32} (h0 : arg1.view.read (Elt F) X1 = x0) (h1 : arg2.view.read (Elt F) X2 = x1) (X8 : BufTy.Contents (Elt F) arg8.view.ty) (h8 : arg8.view.read (Elt F) X8 = g) (f7) (f9) (L : List (View.Piece (Elt F) S128x128 .f32))
    (h9 : arg9.view.read (Elt F) (arg9.view.writes (Elt F) f9 L) = k0_pay246 (stat1 x0 x1)) (inb : ∀ a, (![0, 0] : Fin S128x128.rank → ℕ) a + S128x128.size a ≤ S128x128.size a) :
    arg9.view.readAt (Elt F) (Rect.unit (s := S128x128) ![0, 0] S128x128.size inb).toLoadRect (arg9.view.writes (Elt F) f9 ((pb_k0_t2 (F := F) 𝒱 c bd i arg1 harg1 arg2 harg2 arg3 harg3 arg4 harg4 arg5 harg5 arg6 harg6 arg7 harg7 arg8 harg8 arg9 harg9 X8 (arg7.view.writes (Elt F) f7 (pb_k0_t1 (F := F) 𝒱 c bd i arg1 harg1 arg2 harg2 arg3 harg3 arg4 harg4 arg5 harg5 arg6 harg6 arg7 harg7 arg8 harg8 arg9 harg9 X1 X2 n1).2.1) (arg9.view.writes (Elt F) f9 L) n2).2 ++ L)) = stat2 x0 x1 g := by
  rw [ld_whole, View.writes_append, t2_read9, t1_read7, h0, h1, h8, h9]; rfl

/-- The block of codes. -/
def codesB (x0 x1 : S128x8192.Idx → F .bf16) (g : S1x8192.Idx → F .f32) : S128x8192.Idx → BitVec 8 :=
  fun y => code (normV x0 x1 g y) (k0_pay1 (k0_pay248 (stat2 x0 x1 g)) (lane y))
/-- The block of scales. -/
def scaleB (x0 x1 : S128x8192.Idx → F .bf16) (g : S1x8192.Idx → F .f32) : S1x1x128.Idx → F .f32 := k0_pay249 (stat2 x0 x1 g)

end Cert.KernelIdeal.Val
end
-- ==== Proof.Runs.lean ====
module
public import proofs.«01_k».proof.Proof.Gen.KernelIdeal.Frame.Runs
public import proofs.«01_k».proof.Proof.Blocks
@[expose] public section
set_option maxRecDepth 16384
noncomputable section
namespace Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole 128 × 8192 block lies within itself. -/
theorem whole128x8192 : ∀ a, (![0, 0] : Fin S128x8192.rank → ℕ) a + S128x8192.size a ≤ S128x8192.size a := by decide
/-- The whole 1 × 1 × 128 block lies within itself. -/
theorem whole1x1x128 : ∀ a, (![0, 0, 0] : Fin S1x1x128.rank → ℕ) a + S1x1x128.size a ≤ S1x1x128.size a := by decide

/-- A buffer whose contents read as `w` holds `w` stored as one whole block. -/
theorem owns_whole {sp : Space} {S : Shape} {e : EltTy} {M : Memref sig .tc sp S e} (hM : M.IsWhole) (c : Dev nD)
    {off : Fin S.rank → ℕ} (inb : ∀ a, off a + S.size a ≤ S.size a) (f : BufTy.Contents (Elt F) M.view.ty) (w : S.Idx → Elt F e) :
    iprop(⌜M.view.read (Elt F) f = w⌝ ∗ M.view.loc (c : Thread nD τ) ↦[M.view.set]{fullShare} f)
      ⊢ (iprop(∃ f, M.view.loc (c : Thread nD τ) ↦[M.view.set]{fullShare} M.view.writes (Elt F) f [⟨Rect.unit off S.size inb, w⟩]) : sProp 𝕄) := by
  iintro ⟨%h, H⟩
  have e : f = M.view.writes (Elt F) f [⟨Rect.unit off S.size inb, w⟩] :=
    (hM.eq_unread h).trans (hM.eq_unread (read_whole M.view f inb w [])).symm
  iexists f
  rw [← e]
  iexact H

set_option backward.proofsInPublic true in
set_option maxHeartbeats 1000000 in
/-- The body of the kernel at the first grid point: from whole blocks of the inputs it leaves in the outputs the block's residual
    sums, its codes and its scales, and in the carried buffer the widened gain. -/
def kernelRun0_A (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (hc0 : cond0_0 i)
    (x0 : Vec F S128x8192 .bf16) (x1 : Vec F S128x8192 .bf16) (x2 : Vec F S1x8192 .bf16) :
    Σ' (L3 : List (View.Piece (Elt F) S128x8192 .bf16)), Σ' (L4 : List (View.Piece (Elt F) S128x8192 .i8)), Σ' (L5 : List (View.Piece (Elt F) S1x1x128 .f32)), { LS1 : List (View.Piece (Elt F) S1x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ d, owns (c : Thread nD τ) arg7 fullShare d) ∗ (∃ f, arg8.view.loc (c : Thread nD τ) ↦[arg8.view.set]{fullShare} arg8.view.writes (Elt F) f LS1) ∗ (∃ d, owns (c : Thread nD τ) arg9 fullShare d)) -∗ K ⟨⟩))
          ⊢ wp frame (wpE (defs₀ (F := F)) Variants.none c none) E (cc0_add_rmsnorm_quant i arg1 harg1 arg2 harg2 arg3 harg3 arg4 harg4 arg5 harg5 arg6 harg6 arg7 harg7 arg8 harg8 arg9 harg9) K } := by
  refine ⟨[⟨Rect.unit (s := S128x8192) ![0, 0] S128x8192.size whole128x8192, newB x0 x1⟩],
    [⟨Rect.unit (s := S128x8192) ![0, 0] S128x8192.size whole128x8192, codesB x0 x1 (k0_pay244 x2)⟩],
    [⟨Rect.unit (s := S1x1x128) ![0, 0, 0] S1x1x128.size whole1x1x128, scaleB x0 x1 (k0_pay244 x2)⟩],
    [⟨Rect.unit (s := S1x8192) ![0, 0] S1x8192.size inb_S1x8192_S1x8192_0_0, k0_pay244 x2⟩], fun E K => ?run⟩
  case run =>
    simp only [cc0_add_rmsnorm_quant_eq_skeleton]; unfold cc0_add_rmsnorm_quant_skel
    simp only [k0_part35_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    have hrd0 : ∀ (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X_arg1 : BufTy.Contents (Elt F) arg1.view.ty) (X_arg2 : BufTy.Contents (Elt F) arg2.view.ty) (hrdF : BufTy.Contents (Elt F) arg9.view.ty) (hrdB : LoadRect S128x128), arg9.view.readAt (Elt F) hrdB (arg9.view.writes (Elt F) hrdF (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.2) = arg9.view.readCov (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.2 hrdB := fun 𝒱 c bd i arg1 harg1 arg2 harg2 arg3 harg3 arg4 harg4 arg5 harg5 arg6 harg6 arg7 harg7 arg8 harg8 arg9 harg9 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.2 S16x128.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iapply (owns_whole harg4 _ whole128x8192 _ (newB x0 x1))
      isplitr; swap; · iexact H3
      ipureintro
      exact (t1_read4 _ _ _ _ _ _ _ _ _ _ _ _ _ _ _ _ _ _ _ _ _ _ _ _ _).trans (congrArg₂ newB hf0 hf1)
    isplitl [H4]
    · iapply (owns_whole harg5 _ whole128x8192 _ (codesB x0 x1 (k0_pay244 x2)))
      isplitr; swap; · iexact H4
      ipureintro
      refine (t3_read5 _ _ _ _ _ _ _ _ _ _ _ _ _ _ _ _ _ _ _ _ _ _ _ _ _).trans (funext fun y => congrArg₂ code (congrFun (?_ : _ = normV x0 x1 (k0_pay244 x2)) y)
        (congrFun (?_ : _ = k0_pay1 (k0_pay248 (stat2 x0 x1 (k0_pay244 x2)))) (lane y)))
      · exact read7_end _ _ _ _ _ _ _ _ _ _ _ _ _ _ _ _ _ _ _ _ _ _ _ _ hf0 hf1 _ ((read_whole _ _ _ _ _).trans (congrArg k0_pay244 ((ld_whole _ _ _).trans hf2))) _ _ ((read_whole _ _ _ _ _).trans (congrArg k0_pay246 (ld_stat1 _ _ _ _ _ _ _ _ _ _ _ _ _ _ _ _ _ _ _ _ _ _ _ _ hf0 hf1 _ _)))
      · exact (read_whole _ _ _ _ _).trans (congrArg (fun v => k0_pay1 (k0_pay248 v)) (ld_stat2 _ _ _ _ _ _ _ _ _ _ _ _ _ _ _ _ _ _ _ _ _ _ _ _ hf0 hf1 _ ((read_whole _ _ _ _ _).trans (congrArg k0_pay244 ((ld_whole _ _ _).trans hf2))) _ _ _ ((read_whole _ _ _ _ _).trans (congrArg k0_pay246 (ld_stat1 _ _ _ _ _ _ _ _ _ _ _ _ _ _ _ _ _ _ _ _ _ _ _ _ hf0 hf1 _ _))) _))
    isplitl [H5]
    · iapply (owns_whole harg6 _ whole1x1x128 _ (scaleB x0 x1 (k0_pay244 x2)))
      isplitr; swap; · iexact H5
      ipureintro
      exact (read_whole _ _ _ _ _).trans (congrArg k0_pay249 (ld_stat2 _ _ _ _ _ _ _ _ _ _ _ _ _ _ _ _ _ _ _ _ _ _ _ _ hf0 hf1 _ ((read_whole _ _ _ _ _).trans (congrArg k0_pay244 ((ld_whole _ _ _).trans hf2))) _ _ _ ((read_whole _ _ _ _ _).trans (congrArg k0_pay246 (ld_stat1 _ _ _ _ _ _ _ _ _ _ _ _ _ _ _ _ _ _ _ _ _ _ _ _ hf0 hf1 _ _))) _))
    isplitl [HS0]
    · iexists _, _; isplitr; swap; · iexact HS0
      ipureintro; rfl
    isplitl [HS1]
    · iapply (owns_whole harg8 _ inb_S1x8192_S1x8192_0_0 _ (k0_pay244 x2))
      isplitr; swap; · iexact HS1
      ipureintro
      exact ((read_whole _ _ _ _ _).trans (congrArg k0_pay244 ((ld_whole _ _ _).trans hf2)))
    iexists _, _; isplitr; swap; · iexact HS2
    ipureintro; rfl

set_option backward.proofsInPublic true in
set_option maxHeartbeats 1000000 in
/-- The body of the kernel at a later grid point: as at the first, with the gain the carried buffer holds. -/
def kernelRun0_B (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (hc0 : ¬cond0_0 i)
    (x0 : Vec F S128x8192 .bf16) (x1 : Vec F S128x8192 .bf16) (x2 : Vec F S1x8192 .bf16) (xs1 : Vec F S1x8192 .f32) :
    Σ' (L3 : List (View.Piece (Elt F) S128x8192 .bf16)), Σ' (L4 : List (View.Piece (Elt F) S128x8192 .i8)), Σ' (L5 : List (View.Piece (Elt F) S1x1x128 .f32)), { LS1 : List (View.Piece (Elt F) S1x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs1 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ d, owns (c : Thread nD τ) arg7 fullShare d) ∗ owns (c : Thread nD τ) arg8 fullShare xs1 ∗ (∃ d, owns (c : Thread nD τ) arg9 fullShare d)) -∗ K ⟨⟩))
          ⊢ wp frame (wpE (defs₀ (F := F)) Variants.none c none) E (cc0_add_rmsnorm_quant i arg1 harg1 arg2 harg2 arg3 harg3 arg4 harg4 arg5 harg5 arg6 harg6 arg7 harg7 arg8 harg8 arg9 harg9) K } := by
  refine ⟨[⟨Rect.unit (s := S128x8192) ![0, 0] S128x8192.size whole128x8192, newB x0 x1⟩],
    [⟨Rect.unit (s := S128x8192) ![0, 0] S128x8192.size whole128x8192, codesB x0 x1 xs1⟩],
    [⟨Rect.unit (s := S1x1x128) ![0, 0, 0] S1x1x128.size whole1x1x128, scaleB x0 x1 xs1⟩],
    [], fun E K => ?run⟩
  case run =>
    simp only [cc0_add_rmsnorm_quant_eq_skeleton]; unfold cc0_add_rmsnorm_quant_skel
    simp only [k0_part35_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg8.eq_unread hfs1
    have hrd0 : ∀ (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .bf16) (harg3 : arg3.IsWhole) (arg4 : Memref sig .tc .vmem S128x8192 .bf16) (harg4 : arg4.IsWhole) (arg5 : Memref sig .tc .vmem S128x8192 .i8) (harg5 : arg5.IsWhole) (arg6 : Memref sig .tc .vmem S1x1x128 .f32) (harg6 : arg6.IsWhole) (arg7 : Memref sig .tc .vmem S128x8192 .f32) (harg7 : arg7.IsWhole) (arg8 : Memref sig .tc .vmem S1x8192 .f32) (harg8 : arg8.IsWhole) (arg9 : Memref sig .tc .vmem S128x128 .f32) (harg9 : arg9.IsWhole) (X_arg1 : BufTy.Contents (Elt F) arg1.view.ty) (X_arg2 : BufTy.Contents (Elt F) arg2.view.ty) (hrdF : BufTy.Contents (Elt F) arg9.view.ty) (hrdB : LoadRect S128x128), arg9.view.readAt (Elt F) hrdB (arg9.view.writes (Elt F) hrdF (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.2) = arg9.view.readCov (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.2 hrdB := fun 𝒱 c bd i arg1 harg1 arg2 harg2 arg3 harg3 arg4 harg4 arg5 harg5 arg6 harg6 arg7 harg7 arg8 harg8 arg9 harg9 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.2 S16x128.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iapply (owns_whole harg4 _ whole128x8192 _ (newB x0 x1))
      isplitr; swap; · iexact H3
      ipureintro
      exact (t1_read4 _ _ _ _ _ _ _ _ _ _ _ _ _ _ _ _ _ _ _ _ _ _ _ _ _).trans (congrArg₂ newB hf0 hf1)
    isplitl [H4]
    · iapply (owns_whole harg5 _ whole128x8192 _ (codesB x0 x1 xs1))
      isplitr; swap; · iexact H4
      ipureintro
      refine (t3_read5 _ _ _ _ _ _ _ _ _ _ _ _ _ _ _ _ _ _ _ _ _ _ _ _ _).trans (funext fun y => congrArg₂ code (congrFun (?_ : _ = normV x0 x1 xs1) y)
        (congrFun (?_ : _ = k0_pay1 (k0_pay248 (stat2 x0 x1 xs1))) (lane y)))
      · exact read7_end _ _ _ _ _ _ _ _ _ _ _ _ _ _ _ _ _ _ _ _ _ _ _ _ hf0 hf1 _ hfs1 _ _ ((read_whole _ _ _ _ _).trans (congrArg k0_pay246 (ld_stat1 _ _ _ _ _ _ _ _ _ _ _ _ _ _ _ _ _ _ _ _ _ _ _ _ hf0 hf1 _ _)))
      · exact (read_whole _ _ _ _ _).trans (congrArg (fun v => k0_pay1 (k0_pay248 v)) (ld_stat2 _ _ _ _ _ _ _ _ _ _ _ _ _ _ _ _ _ _ _ _ _ _ _ _ hf0 hf1 _ hfs1 _ _ _ ((read_whole _ _ _ _ _).trans (congrArg k0_pay246 (ld_stat1 _ _ _ _ _ _ _ _ _ _ _ _ _ _ _ _ _ _ _ _ _ _ _ _ hf0 hf1 _ _))) _))
    isplitl [H5]
    · iapply (owns_whole harg6 _ whole1x1x128 _ (scaleB x0 x1 xs1))
      isplitr; swap; · iexact H5
      ipureintro
      exact (read_whole _ _ _ _ _).trans (congrArg k0_pay249 (ld_stat2 _ _ _ _ _ _ _ _ _ _ _ _ _ _ _ _ _ _ _ _ _ _ _ _ hf0 hf1 _ hfs1 _ _ _ ((read_whole _ _ _ _ _).trans (congrArg k0_pay246 (ld_stat1 _ _ _ _ _ _ _ _ _ _ _ _ _ _ _ _ _ _ _ _ _ _ _ _ hf0 hf1 _ _))) _))
    isplitl [HS0]
    · iexists _, _; isplitr; swap; · iexact HS0
      ipureintro; rfl
    isplitl [HS1]
    · iexists _; isplitr; · ipureintro; exact harg8.read_unread _
      iexact HS1
    iexists _, _; isplitr; swap; · iexact HS2
    ipureintro; rfl

end Cert.KernelIdeal.Val
end
-- ==== Proof.Frame.lean ====
module
public import proofs.«01_k».proof.Proof.Runs
public import Idealize.ShloMosaic.Lib.Claim
@[expose] public section
set_option maxRecDepth 16384
noncomputable section
namespace Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def t0 : Fin cfg0.N := ⟨0, lt_of_lt_of_eq (by decide) N_0.symm⟩
/-- The widened gain, which the carried buffer holds from the first point on. -/
def gain (c : Dev nD) : Vec F S1x8192 .f32 := k0_pay244 (iblk m c 2 t0)
/-- The residual sums a point leaves. -/
def out3 (c : Dev nD) (t : Fin cfg0.N) : Vec F S128x8192 .bf16 := newB (iblk m c 0 t) (iblk m c 1 t)
/-- The codes a point leaves. -/
def out4 (c : Dev nD) (t : Fin cfg0.N) : Vec F S128x8192 .i8 := codesB (iblk m c 0 t) (iblk m c 1 t) (gain m c)
/-- The scales a point leaves. -/
def out5 (c : Dev nD) (t : Fin cfg0.N) : Vec F S1x1x128 .f32 := scaleB (iblk m c 0 t) (iblk m c 1 t) (gain m c)

/-- The invariant before a position: at first every scratch buffer at anything, later the carried one at the gain. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (gain m c) ∗ (∃ d, owns (c : Thread nD τ) scM0_2 fullShare d)) ∗ (∃ r, prngReg c r))

/-- Before the first point the scratch is as the region found it. -/
theorem PhiS_zero (c : Dev nD) (n : ℕ) (h : n ≤ cfg0.N) (hz : n = 0) : PhiS m c n h = Pipeline.ΦA spec0 c := by
  subst hz; rfl

/-- After a point the scratch carries the gain. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare (gain m c) ∗ (∃ d, owns (c : Thread nD τ) scM0_2 fullShare d)) ∗ (∃ r, prngReg c r)) := rfl

/-- At every later point the scratch carries the gain. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (gain m c) ∗ (∃ d, owns (c : Thread nD τ) scM0_2 fullShare d)) ∗ (∃ r, prngReg c r)) := by
  cases n with
  | zero => exact absurd rfl hz
  | succ n => rfl

/-! ## The pipeline's proof data -/

/-- The data of the pipeline on core `c`: each input's buffer at its block, each output's at its block's value, the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
    | ⟨5, _⟩ => out5 m c t
  Φ t := PhiS m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0's buffer. -/
theorem after0_0 (c : Dev nD) (t : Fin cfg0.N) : (dats m 0 c).after 0 t = iblk m c 0 t := by dsimp only [dats]
/-- What the body leaves in window 1's buffer. -/
theorem after0_1 (c : Dev nD) (t : Fin cfg0.N) : (dats m 0 c).after 1 t = iblk m c 1 t := by dsimp only [dats]
/-- What the body leaves in window 2's buffer. -/
theorem after0_2 (c : Dev nD) (t : Fin cfg0.N) : (dats m 0 c).after 2 t = iblk m c 2 t := by dsimp only [dats]
/-- What the body leaves in window 3's buffer. -/
theorem after0_3 (c : Dev nD) (t : Fin cfg0.N) : (dats m 0 c).after 3 t = out3 m c t := by dsimp only [dats]
/-- What the body leaves in window 4's buffer. -/
theorem after0_4 (c : Dev nD) (t : Fin cfg0.N) : (dats m 0 c).after 4 t = out4 m c t := by dsimp only [dats]
/-- What the body leaves in window 5's buffer. -/
theorem after0_5 (c : Dev nD) (t : Fin cfg0.N) : (dats m 0 c).after 5 t = out5 m c t := by dsimp only [dats]

/-- Input window 0's buffer holds its block before the body. -/
theorem before0_0 (c : Dev nD) (t : Fin cfg0.N) (d) : (dats m 0 c).before 0 t d = iblk m c 0 t :=
  before0_0_of m (dats m 0 c) (A_eq m c 0) (after0_0 m c) t d
/-- Input window 1's buffer holds its block before the body. -/
theorem before0_1 (c : Dev nD) (t : Fin cfg0.N) (d) : (dats m 0 c).before 1 t d = iblk m c 1 t :=
  before0_1_of m (dats m 0 c) (A_eq m c 1) (after0_1 m c) t d
/-- Input window 2's buffer holds its block before the body. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 8000000 in
/-- The body at any point, by the run of its case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 152 := lt_of_lt_of_eq t.isLt (show cfg0.N = 152 from N_0)
  by_cases h0 : t.val % 152 = 0
  · by_cases hz : t.val = 0
    · rw [PhiS_castSucc m c t, PhiS_zero m c _ _ hz, PhiA0_eq]
      have hg : k0_pay244 (iblk m c 2 t) = gain m c := by
        have e : t = t0 := Fin.ext hz
        rw [e]; rfl
      unfold out3 out4 out5
      rw [← hg]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%e3, H3⟩, ⟨%e4, H4⟩, ⟨%e5, H5⟩, HS0, ⟨%es1, HS1⟩, HS2⟩
      isplitl [HS0 HS1 HS2 Hg]
      · isplitl [HS0 HS1 HS2]
        · isplitl [HS0]
          · iexact HS0
          isplitl [HS1]
          · unfold owns; iexists _; isplitr
            swap; · iexact HS1
            ipureintro; exact read_whole _ _ _ _ _
          iexact HS2
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact read_whole _ _ _ _ _
      isplitl [H4]
      · unfold owns; iexists _; isplitr
        swap; · iexact H4
        ipureintro; exact read_whole _ _ _ _ _
      unfold owns; iexists _; isplitr
      swap; · iexact H5
      ipureintro; exact read_whole _ _ _ _ _
    · exfalso; have hN : t.val < 152 := lt_of_lt_of_eq t.isLt (show cfg0.N = 152 from N_0); omega
  · by_cases hz : t.val = 0
    · exfalso; have hN : t.val < 152 := lt_of_lt_of_eq t.isLt (show cfg0.N = 152 from N_0); omega
    · rw [PhiS_castSucc m c t, PhiS_pos m c _ _ hz]
      unfold out3 out4 out5
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ (fun h => h0 ((hcond0_0 t).mp h)) (iblk m c 0 t) (iblk m c 1 t) (iblk m c 2 t) _).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%e3, H3⟩, ⟨%e4, H4⟩, ⟨%e5, H5⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact read_whole _ _ _ _ _
      isplitl [H4]
      · unfold owns; iexists _; isplitr
        swap; · iexact H4
        ipureintro; exact read_whole _ _ _ _ _
      unfold owns; iexists _; isplitr
      swap; · iexact H5
      ipureintro; exact read_whole _ _ _ _ _

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any later point the invariant gives the region's own back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 152 := N_0; omega)

/-! ## The run and the frame -/

set_option backward.isDefEq.respectTransparency.types false in
/-- The launch: every array at what the data say, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Val

end
-- ==== Proof.KernelFrame.lean ====
/- The kernel's frame at machine words. The kernel's text and its idealization's are the same, at floats of any kind, and the
   idealization's frame (`Frame`) is proved at floats of any kind: it is the kernel's at machine words. -/
module
public import proofs.«01_k».proof.Defs
public import proofs.«01_k».proof.Proof.Gen.Kernel
public import proofs.«01_k».proof.Proof.Frame
@[expose] public section
set_option maxRecDepth 100000
noncomputable section
namespace Cert.Kernel.Val
open Idealize.ShloMosaic Idealize.SL.Sem

variable {F : FTy → Type} [FloatOps F]

set_option maxHeartbeats 4000000 in
/-- The kernel function is its idealization's. -/
theorem body_eq : @Cert.Kernel.cc0_add_rmsnorm_quant F _ Cert.Kernel.Gen.facts =
    @Cert.KernelIdeal.cc0_add_rmsnorm_quant F _ Cert.KernelIdeal.Gen.facts := rfl

/-- The table of kernel functions is the idealization's. -/
theorem bodies_eq : @Cert.Kernel.defs₀ F _ Cert.Kernel.Gen.facts = @Cert.KernelIdeal.defs₀ F _ Cert.KernelIdeal.Gen.facts := by
  refine congrArg Defs.onTc (funext fun l => funext fun x => ?_)
  match l, x with
  | 0, (t, s) => exact congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _
  | ⟨_ + 1, h⟩, _ => exact absurd h (Nat.not_lt.2 (Nat.le_add_left _ _))

/-- The table of everything the program calls is the idealization's. -/
theorem defs_eq : @Cert.Kernel.defs F _ Cert.Kernel.Gen.facts = @Cert.KernelIdeal.defs F _ Cert.KernelIdeal.Gen.facts :=
  congrArg (Pipeline.defs _) bodies_eq

/-- The kernel's frame at machine words: it terminates without fault, its arguments end unchanged and every counter is zero. -/
theorem frame : quiescent_Kernel (hKernel := Cert.Kernel.Gen.facts) := by
  intro m ρ _
  have h := Cert.KernelIdeal.Val.frame (F := Bits) m ρ
  rw [← defs_eq] at h
  exact h

end Cert.Kernel.Val

end
-- ==== Proof.Arrays.lean ====
module
public import proofs.«01_k».proof.Proof.Frame
public import Idealize.ShloMosaic.Lib.Pipeline.Value
@[expose] public section
noncomputable section
namespace Cert.KernelIdeal.Val
open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Output 3's array in a final state. -/
theorem post3 (r : PUnit × MemSt nD τ sig (Elt F)) (h : Pipeline.FramePost cfgs (dats m) 0 (V m) r) (c : Dev nD) :
    r.2.mem ((c : Thread nD τ).loc main_v3_0) = (dats m 0 c).arrAt 3 cfg0.N :=
  (h c).1 3

/-- Output 4's array in a final state. -/
theorem post4 (r : PUnit × MemSt nD τ sig (Elt F)) (h : Pipeline.FramePost cfgs (dats m) 0 (V m) r) (c : Dev nD) :
    r.2.mem ((c : Thread nD τ).loc main_v3_1) = (dats m 0 c).arrAt 4 cfg0.N :=
  (h c).1 4

/-- Output 5's array in a final state. -/
theorem post5 (r : PUnit × MemSt nD τ sig (Elt F)) (h : Pipeline.FramePost cfgs (dats m) 0 (V m) r) (c : Dev nD) :
    r.2.mem ((c : Thread nD τ).loc main_v3_2) = (dats m 0 c).arrAt 5 cfg0.N :=
  (h c).1 5

/-- An argument is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- An argument is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- An argument is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The point whose block holds an index of output 3's array. -/
abbrev run3Of (i : S19456x8192.Idx) : ℕ := 1 * ((i 0).val / 128 - 0) + 1 * ((i 1).val / 8192 - 0)
set_option backward.proofsInPublic true in
/-- The place of an index of output 3's array in its block. -/
abbrev loc3Of (i : S19456x8192.Idx) : S128x8192.Idx := fun a => match a with
  | ⟨0, _⟩ => ⟨(i 0).val % 128, Nat.mod_lt _ (by decide)⟩
  | ⟨1, _⟩ => ⟨(i 1).val % 8192, Nat.mod_lt _ (by decide)⟩
/-- The grid point of an index of output 3's array. -/
abbrev pt3Of (i : S19456x8192.Idx) : ℕ := run3Of i

/-- Output 3's array after the run, at an index: its block's value at the index's place in the block. -/
def G3 (c : Dev nD) : Buf (Elt F) ((c : Thread nD τ).loc main_v3_0) := fun i =>
  if h : pt3Of i < cfg0.N then
    out3 m c ⟨pt3Of i, h⟩ (loc3Of i)
  else V m c (Pipeline.arrRef spec0 3) i

/-- Output 3's block indices over the grid. -/
theorem idx_facts3 : ∀ t : Fin cfg0.N, 0 ≤ win0_3.index t (0 : Fin 2) ∧ win0_3.index t (0 : Fin 2) ≤ 151
    ∧ 0 ≤ win0_3.index t (1 : Fin 2) ∧ win0_3.index t (1 : Fin 2) ≤ 0
    ∧ 1 * (win0_3.index t (0 : Fin 2) - 0) + 1 * (win0_3.index t (1 : Fin 2) - 0) = t.val :=
  (by decide +kernel : ∀ t : Fin grid0.N, _)

/-- The point that writes a given block of output 3. -/
abbrev onto3Pt (q0 : Fin 152) (q1 : Fin 1) : Fin grid0.N :=
  ⟨1 * q0.val + 1 * q1.val, lt_of_lt_of_eq (by omega) N_0.symm⟩
/-- Every block of output 3 is written back by some point. -/
theorem idx_onto3 : ∀ (q0 : Fin 152) (q1 : Fin 1), ∃ t : Fin cfg0.N, (cfg0.win 3).flush t = true ∧ win0_3.index t = ![q0.val + 0, q1.val + 0] :=
  fun q0 q1 => ⟨onto3Pt q0 q1, (by decide +kernel : ∀ (q0 : Fin 152) (q1 : Fin 1), win0_3.flush (onto3Pt q0 q1) = true ∧ win0_3.index (onto3Pt q0 q1) = ![q0.val + 0, q1.val + 0]) q0 q1⟩

/-- What a point writes back to output 3 is its block of the stated array. -/
theorem flushed3_eq (c : Dev nD) (t : Fin cfg0.N) (hf : (cfg0.win 3).flush t = true) :
    (dats m 0 c).flushed 3 t = ((cfg0.win 3).blk t).view.read (Elt F) (G3 m c) := by
  show (cfg0.win 3).cut (grid0.coords t) ((dats m 0 c).after 3 t) = _
  rw [after0_3]
  obtain ⟨e0, e1, e2⟩ := idx_facts3 t
  funext y
  have hy0 : (y 0).val < 128 := (y 0).isLt
  have hy1 : (y 1).val < 8192 := (y 1).isLt
  have hb0 : (((cfg0.win 3).blk t).view.emb y 0).val = win0_3.index t (0 : Fin 2) * 128 + 1 * (y 0).val := rfl
  have hb1 : (((cfg0.win 3).blk t).view.emb y 1).val = win0_3.index t (1 : Fin 2) * 8192 + 1 * (y 1).val := rfl
  have hr : run3Of (((cfg0.win 3).blk t).view.emb y) = t.val := by
    show 1 * ((((cfg0.win 3).blk t).view.emb y 0).val / 128 - 0) + 1 * ((((cfg0.win 3).blk t).view.emb y 1).val / 8192 - 0) = _
    rw [hb0, hb1]
    rw [show (win0_3.index t (0 : Fin 2) * 128 + 1 * (y 0).val) / 128 = win0_3.index t (0 : Fin 2) from by omega]; rw [show (win0_3.index t (1 : Fin 2) * 8192 + 1 * (y 1).val) / 8192 = win0_3.index t (1 : Fin 2) from by omega]
    omega
  have hl : loc3Of (((cfg0.win 3).blk t).view.emb y) = (cfg0.win 3).xinj (grid0.coords t) y := by
    funext a; apply Fin.ext
    match a with
    | ⟨0, _⟩ => show (((cfg0.win 3).blk t).view.emb y 0).val % 128 = (y 0).val; rw [hb0]; omega
    | ⟨1, _⟩ => show (((cfg0.win 3).blk t).view.emb y 1).val % 8192 = (y 1).val; rw [hb1]; omega
  have hp : pt3Of (((cfg0.win 3).blk t).view.emb y) = t.val := by
    exact hr
  show out3 m c t ((cfg0.win 3).xinj (grid0.coords t) y) = G3 m c (((cfg0.win 3).blk t).view.emb y)
  unfold G3
  rw [dif_pos (by rw [hp]; exact t.isLt), hl]
  exact congrFun (congrArg (out3 m c) (Fin.ext hp.symm)) _

/-- Membership of an index in a point's block of output 3. -/
theorem mem_blk3 (t : Fin cfg0.N) (i : S19456x8192.Idx) :
    i ∈ ((cfg0.win 3).blk t).view.set ↔ ∀ a : Fin 2, win0_3.index t a * S128x8192.size a ≤ (i a).val ∧ (i a).val < win0_3.index t a * S128x8192.size a + S128x8192.size a := by
  show i ∈ ((View.whole main_v3_0).slice (win0_3.rect t)).set ↔ _
  rw [View.set_slice_whole, Rect.mem_set_unit]
  exact Iff.rfl

/-- The indices that the blocks of output 3 cover. -/
theorem covered_iff3 (i : S19456x8192.Idx) :
    (∃ t : Fin cfg0.N, (cfg0.win 3).flush t = true ∧ i ∈ ((cfg0.win 3).blk t).view.set) ↔ 0 ≤ (i 0).val ∧ (i 0).val < 19456 ∧ 0 ≤ (i 1).val ∧ (i 1).val < 8192 := by
  constructor
  · rintro ⟨t, -, hi⟩
    rw [mem_blk3] at hi
    have b0 : win0_3.index t (0 : Fin 2) * 128 ≤ (i 0).val ∧ (i 0).val < win0_3.index t (0 : Fin 2) * 128 + 128 := hi 0
    have b1 : win0_3.index t (1 : Fin 2) * 8192 ≤ (i 1).val ∧ (i 1).val < win0_3.index t (1 : Fin 2) * 8192 + 8192 := hi 1
    obtain ⟨e0, e1, e2⟩ := idx_facts3 t
    omega
  · intro h
    have hi0 : (i 0).val < 19456 := (i 0).isLt
    have hi1 : (i 1).val < 8192 := (i 1).isLt
    obtain ⟨t, hft, ht⟩ := idx_onto3 ⟨(i 0).val / 128 - 0, by omega⟩ ⟨(i 1).val / 8192 - 0, by omega⟩
    have q0 : win0_3.index t (0 : Fin 2) = (i 0).val / 128 - 0 + 0 := congrFun ht 0
    have q1 : win0_3.index t (1 : Fin 2) = (i 1).val / 8192 - 0 + 0 := congrFun ht 1
    refine ⟨t, hft, ?_⟩
    rw [mem_blk3]
    intro a
    match a with
    | ⟨0, _⟩ => show win0_3.index t (0 : Fin 2) * 128 ≤ (i 0).val ∧ (i 0).val < win0_3.index t (0 : Fin 2) * 128 + 128; omega
    | ⟨1, _⟩ => show win0_3.index t (1 : Fin 2) * 8192 ≤ (i 1).val ∧ (i 1).val < win0_3.index t (1 : Fin 2) * 8192 + 8192; omega

/-- Output 3's array after the run. -/
theorem final3 (c : Dev nD) : (dats m 0 c).arrAt 3 cfg0.N = G3 m c :=
  (dats m 0 c).arrAt_eq_of_cover 3 _ (fun t hf => flushed3_eq m c t hf) (fun i => (covered_iff3 i).2 (by
    have h0 : (i 0).val < 19456 := (i 0).isLt; have h1 : (i 1).val < 8192 := (i 1).isLt; omega))

/-- The point whose block holds an index of output 4's array. -/
abbrev run4Of (i : S19456x8192.Idx) : ℕ := 1 * ((i 0).val / 128 - 0) + 1 * ((i 1).val / 8192 - 0)
set_option backward.proofsInPublic true in
/-- The place of an index of output 4's array in its block. -/
abbrev loc4Of (i : S19456x8192.Idx) : S128x8192.Idx := fun a => match a with
  | ⟨0, _⟩ => ⟨(i 0).val % 128, Nat.mod_lt _ (by decide)⟩
  | ⟨1, _⟩ => ⟨(i 1).val % 8192, Nat.mod_lt _ (by decide)⟩
/-- The grid point of an index of output 4's array. -/
abbrev pt4Of (i : S19456x8192.Idx) : ℕ := run4Of i

/-- Output 4's array after the run, at an index: its block's value at the index's place in the block. -/
def G4 (c : Dev nD) : Buf (Elt F) ((c : Thread nD τ).loc main_v3_1) := fun i =>
  if h : pt4Of i < cfg0.N then
    out4 m c ⟨pt4Of i, h⟩ (loc4Of i)
  else V m c (Pipeline.arrRef spec0 4) i

/-- Output 4's block indices over the grid. -/
theorem idx_facts4 : ∀ t : Fin cfg0.N, 0 ≤ win0_4.index t (0 : Fin 2) ∧ win0_4.index t (0 : Fin 2) ≤ 151
    ∧ 0 ≤ win0_4.index t (1 : Fin 2) ∧ win0_4.index t (1 : Fin 2) ≤ 0
    ∧ 1 * (win0_4.index t (0 : Fin 2) - 0) + 1 * (win0_4.index t (1 : Fin 2) - 0) = t.val :=
  (by decide +kernel : ∀ t : Fin grid0.N, _)

/-- The point that writes a given block of output 4. -/
abbrev onto4Pt (q0 : Fin 152) (q1 : Fin 1) : Fin grid0.N :=
  ⟨1 * q0.val + 1 * q1.val, lt_of_lt_of_eq (by omega) N_0.symm⟩
/-- Every block of output 4 is written back by some point. -/
theorem idx_onto4 : ∀ (q0 : Fin 152) (q1 : Fin 1), ∃ t : Fin cfg0.N, (cfg0.win 4).flush t = true ∧ win0_4.index t = ![q0.val + 0, q1.val + 0] :=
  fun q0 q1 => ⟨onto4Pt q0 q1, (by decide +kernel : ∀ (q0 : Fin 152) (q1 : Fin 1), win0_4.flush (onto4Pt q0 q1) = true ∧ win0_4.index (onto4Pt q0 q1) = ![q0.val + 0, q1.val + 0]) q0 q1⟩

/-- What a point writes back to output 4 is its block of the stated array. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4]
  obtain ⟨e0, e1, e2⟩ := idx_facts4 t
  funext y
  have hy0 : (y 0).val < 128 := (y 0).isLt
  have hy1 : (y 1).val < 8192 := (y 1).isLt
  have hb0 : (((cfg0.win 4).blk t).view.emb y 0).val = win0_4.index t (0 : Fin 2) * 128 + 1 * (y 0).val := rfl
  have hb1 : (((cfg0.win 4).blk t).view.emb y 1).val = win0_4.index t (1 : Fin 2) * 8192 + 1 * (y 1).val := rfl
  have hr : run4Of (((cfg0.win 4).blk t).view.emb y) = t.val := by
    show 1 * ((((cfg0.win 4).blk t).view.emb y 0).val / 128 - 0) + 1 * ((((cfg0.win 4).blk t).view.emb y 1).val / 8192 - 0) = _
    rw [hb0, hb1]
    rw [show (win0_4.index t (0 : Fin 2) * 128 + 1 * (y 0).val) / 128 = win0_4.index t (0 : Fin 2) from by omega]; rw [show (win0_4.index t (1 : Fin 2) * 8192 + 1 * (y 1).val) / 8192 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 128 = (y 0).val; rw [hb0]; omega
    | ⟨1, _⟩ => show (((cfg0.win 4).blk t).view.emb y 1).val % 8192 = (y 1).val; rw [hb1]; omega
  have hp : pt4Of (((cfg0.win 4).blk t).view.emb y) = t.val := by
    exact hr
  show out4 m c t ((cfg0.win 4).xinj (grid0.coords t) y) = G4 m c (((cfg0.win 4).blk t).view.emb y)
  unfold G4
  rw [dif_pos (by rw [hp]; exact t.isLt), hl]
  exact congrFun (congrArg (out4 m c) (Fin.ext hp.symm)) _

/-- Membership of an index in a point's block of output 4. -/
theorem mem_blk4 (t : Fin cfg0.N) (i : S19456x8192.Idx) :
    i ∈ ((cfg0.win 4).blk t).view.set ↔ ∀ a : Fin 2, win0_4.index t a * S128x8192.size a ≤ (i a).val ∧ (i a).val < win0_4.index t a * S128x8192.size a + S128x8192.size a := by
  show i ∈ ((View.whole main_v3_1).slice (win0_4.rect t)).set ↔ _
  rw [View.set_slice_whole, Rect.mem_set_unit]
  exact Iff.rfl

/-- The indices that the blocks of output 4 cover. -/
theorem covered_iff4 (i : S19456x8192.Idx) :
    (∃ t : Fin cfg0.N, (cfg0.win 4).flush t = true ∧ i ∈ ((cfg0.win 4).blk t).view.set) ↔ 0 ≤ (i 0).val ∧ (i 0).val < 19456 ∧ 0 ≤ (i 1).val ∧ (i 1).val < 8192 := by
  constructor
  · rintro ⟨t, -, hi⟩
    rw [mem_blk4] at hi
    have b0 : win0_4.index t (0 : Fin 2) * 128 ≤ (i 0).val ∧ (i 0).val < win0_4.index t (0 : Fin 2) * 128 + 128 := hi 0
    have b1 : win0_4.index t (1 : Fin 2) * 8192 ≤ (i 1).val ∧ (i 1).val < win0_4.index t (1 : Fin 2) * 8192 + 8192 := hi 1
    obtain ⟨e0, e1, e2⟩ := idx_facts4 t
    omega
  · intro h
    have hi0 : (i 0).val < 19456 := (i 0).isLt
    have hi1 : (i 1).val < 8192 := (i 1).isLt
    obtain ⟨t, hft, ht⟩ := idx_onto4 ⟨(i 0).val / 128 - 0, by omega⟩ ⟨(i 1).val / 8192 - 0, by omega⟩
    have q0 : win0_4.index t (0 : Fin 2) = (i 0).val / 128 - 0 + 0 := congrFun ht 0
    have q1 : win0_4.index t (1 : Fin 2) = (i 1).val / 8192 - 0 + 0 := congrFun ht 1
    refine ⟨t, hft, ?_⟩
    rw [mem_blk4]
    intro a
    match a with
    | ⟨0, _⟩ => show win0_4.index t (0 : Fin 2) * 128 ≤ (i 0).val ∧ (i 0).val < win0_4.index t (0 : Fin 2) * 128 + 128; omega
    | ⟨1, _⟩ => show win0_4.index t (1 : Fin 2) * 8192 ≤ (i 1).val ∧ (i 1).val < win0_4.index t (1 : Fin 2) * 8192 + 8192; omega

/-- Output 4's array after the run. -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 19456 := (i 0).isLt; have h1 : (i 1).val < 8192 := (i 1).isLt; omega))

/-- The point whose block holds an index of output 5's array. -/
abbrev run5Of (i : S152x1x128.Idx) : ℕ := 1 * ((i 0).val / 1 - 0) + 1 * ((i 1).val / 1 - 0) + 1 * ((i 2).val / 128 - 0)
set_option backward.proofsInPublic true in
/-- The place of an index of output 5's array in its block. -/
abbrev loc5Of (i : S152x1x128.Idx) : S1x1x128.Idx := fun a => match a with
  | ⟨0, _⟩ => ⟨(i 0).val % 1, Nat.mod_lt _ (by decide)⟩
  | ⟨1, _⟩ => ⟨(i 1).val % 1, Nat.mod_lt _ (by decide)⟩
  | ⟨2, _⟩ => ⟨(i 2).val % 128, Nat.mod_lt _ (by decide)⟩
/-- The grid point of an index of output 5's array. -/
abbrev pt5Of (i : S152x1x128.Idx) : ℕ := run5Of i

/-- Output 5's array after the run, at an index: its block's value at the index's place in the block. -/
def G5 (c : Dev nD) : Buf (Elt F) ((c : Thread nD τ).loc main_v3_2) := fun i =>
  if h : pt5Of i < cfg0.N then
    out5 m c ⟨pt5Of i, h⟩ (loc5Of i)
  else V m c (Pipeline.arrRef spec0 5) i

/-- Output 5's block indices over the grid. -/
theorem idx_facts5 : ∀ t : Fin cfg0.N, 0 ≤ win0_5.index t (0 : Fin 3) ∧ win0_5.index t (0 : Fin 3) ≤ 151
    ∧ 0 ≤ win0_5.index t (1 : Fin 3) ∧ win0_5.index t (1 : Fin 3) ≤ 0
    ∧ 0 ≤ win0_5.index t (2 : Fin 3) ∧ win0_5.index t (2 : Fin 3) ≤ 0
    ∧ 1 * (win0_5.index t (0 : Fin 3) - 0) + 1 * (win0_5.index t (1 : Fin 3) - 0) + 1 * (win0_5.index t (2 : Fin 3) - 0) = t.val :=
  (by decide +kernel : ∀ t : Fin grid0.N, _)

/-- The point that writes a given block of output 5. -/
abbrev onto5Pt (q0 : Fin 152) (q1 : Fin 1) (q2 : Fin 1) : Fin grid0.N :=
  ⟨1 * q0.val + 1 * q1.val + 1 * q2.val, lt_of_lt_of_eq (by omega) N_0.symm⟩
/-- Every block of output 5 is written back by some point. -/
theorem idx_onto5 : ∀ (q0 : Fin 152) (q1 : Fin 1) (q2 : Fin 1), ∃ t : Fin cfg0.N, (cfg0.win 5).flush t = true ∧ win0_5.index t = ![q0.val + 0, q1.val + 0, q2.val + 0] :=
  fun q0 q1 q2 => ⟨onto5Pt q0 q1 q2, (by decide +kernel : ∀ (q0 : Fin 152) (q1 : Fin 1) (q2 : Fin 1), win0_5.flush (onto5Pt q0 q1 q2) = true ∧ win0_5.index (onto5Pt q0 q1 q2) = ![q0.val + 0, q1.val + 0, q2.val + 0]) q0 q1 q2⟩

/-- What a point writes back to output 5 is its block of the stated array. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5]
  obtain ⟨e0, e1, e2, e3⟩ := idx_facts5 t
  funext y
  have hy0 : (y 0).val < 1 := (y 0).isLt
  have hy1 : (y 1).val < 1 := (y 1).isLt
  have hy2 : (y 2).val < 128 := (y 2).isLt
  have hb0 : (((cfg0.win 5).blk t).view.emb y 0).val = win0_5.index t (0 : Fin 3) * 1 + 1 * (y 0).val := rfl
  have hb1 : (((cfg0.win 5).blk t).view.emb y 1).val = win0_5.index t (1 : Fin 3) * 1 + 1 * (y 1).val := rfl
  have hb2 : (((cfg0.win 5).blk t).view.emb y 2).val = win0_5.index t (2 : Fin 3) * 128 + 1 * (y 2).val := rfl
  have hr : run5Of (((cfg0.win 5).blk t).view.emb y) = t.val := by
    show 1 * ((((cfg0.win 5).blk t).view.emb y 0).val / 1 - 0) + 1 * ((((cfg0.win 5).blk t).view.emb y 1).val / 1 - 0) + 1 * ((((cfg0.win 5).blk t).view.emb y 2).val / 128 - 0) = _
    rw [hb0, hb1, hb2]
    rw [show (win0_5.index t (0 : Fin 3) * 1 + 1 * (y 0).val) / 1 = win0_5.index t (0 : Fin 3) from by omega]; rw [show (win0_5.index t (1 : Fin 3) * 1 + 1 * (y 1).val) / 1 = win0_5.index t (1 : Fin 3) from by omega]; rw [show (win0_5.index t (2 : Fin 3) * 128 + 1 * (y 2).val) / 128 = win0_5.index t (2 : Fin 3) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 1 = (y 0).val; rw [hb0]; omega
    | ⟨1, _⟩ => show (((cfg0.win 5).blk t).view.emb y 1).val % 1 = (y 1).val; rw [hb1]; omega
    | ⟨2, _⟩ => show (((cfg0.win 5).blk t).view.emb y 2).val % 128 = (y 2).val; rw [hb2]; omega
  have hp : pt5Of (((cfg0.win 5).blk t).view.emb y) = t.val := by
    exact hr
  show out5 m c t ((cfg0.win 5).xinj (grid0.coords t) y) = G5 m c (((cfg0.win 5).blk t).view.emb y)
  unfold G5
  rw [dif_pos (by rw [hp]; exact t.isLt), hl]
  exact congrFun (congrArg (out5 m c) (Fin.ext hp.symm)) _

/-- Membership of an index in a point's block of output 5. -/
theorem mem_blk5 (t : Fin cfg0.N) (i : S152x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v3_2).slice (win0_5.rect t)).set ↔ _
  rw [View.set_slice_whole, Rect.mem_set_unit]
  exact Iff.rfl

/-- The indices that the blocks of output 5 cover. -/
theorem covered_iff5 (i : S152x1x128.Idx) :
    (∃ t : Fin cfg0.N, (cfg0.win 5).flush t = true ∧ i ∈ ((cfg0.win 5).blk t).view.set) ↔ 0 ≤ (i 0).val ∧ (i 0).val < 152 ∧ 0 ≤ (i 1).val ∧ (i 1).val < 1 ∧ 0 ≤ (i 2).val ∧ (i 2).val < 128 := by
  constructor
  · rintro ⟨t, -, hi⟩
    rw [mem_blk5] at hi
    have b0 : win0_5.index t (0 : Fin 3) * 1 ≤ (i 0).val ∧ (i 0).val < win0_5.index t (0 : Fin 3) * 1 + 1 := hi 0
    have b1 : win0_5.index t (1 : Fin 3) * 1 ≤ (i 1).val ∧ (i 1).val < win0_5.index t (1 : Fin 3) * 1 + 1 := hi 1
    have b2 : win0_5.index t (2 : Fin 3) * 128 ≤ (i 2).val ∧ (i 2).val < win0_5.index t (2 : Fin 3) * 128 + 128 := hi 2
    obtain ⟨e0, e1, e2, e3⟩ := idx_facts5 t
    omega
  · intro h
    have hi0 : (i 0).val < 152 := (i 0).isLt
    have hi1 : (i 1).val < 1 := (i 1).isLt
    have hi2 : (i 2).val < 128 := (i 2).isLt
    obtain ⟨t, hft, ht⟩ := idx_onto5 ⟨(i 0).val / 1 - 0, by omega⟩ ⟨(i 1).val / 1 - 0, by omega⟩ ⟨(i 2).val / 128 - 0, by omega⟩
    have q0 : win0_5.index t (0 : Fin 3) = (i 0).val / 1 - 0 + 0 := congrFun ht 0
    have q1 : win0_5.index t (1 : Fin 3) = (i 1).val / 1 - 0 + 0 := congrFun ht 1
    have q2 : win0_5.index t (2 : Fin 3) = (i 2).val / 128 - 0 + 0 := congrFun ht 2
    refine ⟨t, hft, ?_⟩
    rw [mem_blk5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 1 ≤ (i 1).val ∧ (i 1).val < win0_5.index t (1 : Fin 3) * 1 + 1; omega
    | ⟨2, _⟩ => show win0_5.index t (2 : Fin 3) * 128 ≤ (i 2).val ∧ (i 2).val < win0_5.index t (2 : Fin 3) * 128 + 128; omega

/-- Output 5's array after the run. -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 152 := (i 0).isLt; have h1 : (i 1).val < 1 := (i 1).isLt; have h2 : (i 2).val < 128 := (i 2).isLt; omega))

/-- The run, each output array at its stated contents and the arguments unchanged. -/
theorem run : θ_run defs (onTc (τ := τ) (main (F := F))) ⟨m, fun _ => 0, ρ⟩ fun r => ∀ c : Dev nD,
      r.2.mem ((c : Thread nD τ).loc main_v3_0) = G3 m c
      ∧ r.2.mem ((c : Thread nD τ).loc main_v3_1) = G4 m c
      ∧ r.2.mem ((c : Thread nD τ).loc main_v3_2) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      kept_main_arg0 m r h c,
      kept_main_arg1 m r h c,
      kept_main_arg2 m r h c⟩)
    (run_main m ρ)

end Cert.KernelIdeal.Val

end
-- ==== Proof.Rows.lean ====
module
public import proofs.«01_k».proof.Proof.Trips
public import Idealize.ShloMosaic.PureOps.Ideal.Laws
public import Idealize.ShloMosaic.Lib.IdealHost
public import Idealize.ShloMosaic.Lib.Pipeline.Value
@[expose] public section
noncomputable section
namespace Cert.Rows
open Idealize.ShloMosaic

/-! # One row of the result at the extended reals

The residual sum `r`, its root mean square, the normalized row, its largest magnitude, the scale and the codes, each a
plain function of the row; and the laws by which a row's sum and maximum are regrouped by lanes. -/

/-- The row scaled by the reciprocal root of its mean square (plus the small constant) and by the gain. -/
def norm (r g : Fin 8192 → EReal) (k : Fin 8192) : EReal :=
  r k * Ideal.rsqrt (Ideal.div (∑ q, r q * r q) (Ideal.ofBits .f32 0x46000000#32) + Ideal.ofBits .f32 0x358637BD#32) * g k

/-- The largest magnitude in a row, from the bottom value. -/
def amax (v : Fin 8192 → EReal) : EReal :=
  (Finset.univ : Finset (Fin 8192)).fold max (Ideal.ofBits .f32 0xFF800000#32) (fun k => max (v k) (-(v k)))

/-- The scale of a row whose largest magnitude is `a`: one where that is zero, else a 127th of it. -/
def scale (a : EReal) : EReal :=
  if Ideal.cmp .oeq a (Ideal.ofBits .f32 0x00000000#32) = 1#1 then Ideal.ofBits .f32 0x3F800000#32
  else Ideal.div a (Ideal.ofBits .f32 0x42FE0000#32)

/-- A value's eight-bit code: rounded half to even, held between −127 and 127. -/
def code (q : EReal) : BitVec 8 :=
  Ideal.fptosi 8 (min (Ideal.ofBits .f32 0x42FE0000#32)
    (max (Ideal.ofBits .f32 0xC2FE0000#32) (Ideal.liftRound Ideal.roundHalfEven q)))

/-- The pattern `0x42FE0000` is 127. -/
theorem ofBits_127 : Ideal.ofBits .f32 0x42FE0000#32 = ((127 : ℝ) : EReal) := by
  simp [Ideal.ofBits, Ideal.ieee, -EReal.coe_mul]; norm_num

/-- A scale is never zero. -/
theorem scale_ne_zero (a : EReal) : scale a ≠ 0 := by
  unfold scale
  split_ifs with h
  · simp
  · have ha : a ≠ 0 := by
      intro h0; apply h; subst h0; simp [Ideal.cmp]
    have h127 : ((127 : ℝ) : EReal) ≠ 0 := by
      intro h; have := EReal.coe_eq_zero.mp h; norm_num at this
    have hinv : ((127 : ℝ) : EReal)⁻¹ ≠ 0 := by
      rw [← EReal.coe_inv]; intro h; have := EReal.coe_eq_zero.mp h; norm_num at this
    rw [ofBits_127]; unfold Ideal.div; rw [if_neg h127]
    exact mul_ne_zero ha hinv

/-- Multiplying by the reciprocal of a nonzero value is dividing by it. -/
theorem mul_recip (y s : EReal) (hs : s ≠ 0) : y * Ideal.div (Ideal.ofBits .f32 0x3F800000#32) s = Ideal.div y s := by
  unfold Ideal.div; rw [if_neg hs, if_neg hs, Ideal.ofBits_one_f32, one_mul]

/-- A sum over stretches of 256 in order is the sum over all. -/
theorem sum_stretches (h : ℕ → EReal) (n : ℕ) :
    ∑ j ∈ Finset.range n, ∑ q ∈ Finset.range 256, h (256 * j + q) = ∑ k ∈ Finset.range (256 * n), h k := by
  induction n with
  | zero => simp
  | succ n ih => rw [Finset.sum_range_succ, ih, Nat.mul_succ, Finset.sum_range_add]

/-- A running lane sum is the sum of its stretches' two entries. -/
theorem foldU_add (f : EReal → EReal) (u : ℕ → ℕ → EReal) (l n : ℕ) :
    Cert.KernelIdeal.Val.foldU (F := Ideal) (FloatOps.addf (F := Ideal) (φ := .f32)) f u l n
      = ∑ j ∈ Finset.range n, (f (u j l) + f (u j (128 + l))) := by
  induction n with
  | zero => exact Ideal.ofBits_zero_f32
  | succ n ih => rw [Finset.sum_range_succ, ← ih]; rfl

/-- The lane sums of a row add up to the row's sum. -/
theorem sum_lanes (f : EReal → EReal) (w : Fin 8192 → EReal) :
    ∑ l : Fin 128, Cert.KernelIdeal.Val.foldU (F := Ideal) (FloatOps.addf (F := Ideal) (φ := .f32)) f
        (fun j n => w (Cert.KernelIdeal.Val.colOf (256 * j + n))) l.val 32
      = ∑ k, f (w k) := by
  have e : ∀ k : Fin 8192, f (w k) = (fun n => f (w (Cert.KernelIdeal.Val.colOf n))) k.val := fun k =>
    congrArg (fun q => f (w q)) (Fin.ext (Nat.mod_eq_of_lt k.isLt).symm)
  rw [Finset.sum_congr rfl fun k _ => e k]
  simp only [foldU_add]
  rw [Fin.sum_univ_eq_sum_range (fun n => f (w (Cert.KernelIdeal.Val.colOf n))) 8192,
    Fin.sum_univ_eq_sum_range (fun l => ∑ j ∈ Finset.range 32, (f (w (Cert.KernelIdeal.Val.colOf (256 * j + l)))
      + f (w (Cert.KernelIdeal.Val.colOf (256 * j + (128 + l)))))) 128, Finset.sum_comm]
  rw [show (8192 : ℕ) = 256 * 32 from rfl, ← sum_stretches]
  refine Finset.sum_congr rfl fun j _ => ?_
  rw [Finset.sum_add_distrib, show (256 : ℕ) = 128 + 128 from rfl, Finset.sum_range_add]

/-- A value bounds a running lane maximum exactly when it is nonnegative and bounds every entry the lane reads. -/
theorem foldU_max_le (f : EReal → EReal) (u : ℕ → ℕ → EReal) (l n : ℕ) (b : EReal) :
    Cert.KernelIdeal.Val.foldU (F := Ideal) (FloatOps.maximumf (F := Ideal) (φ := .f32)) f u l n ≤ b
      ↔ 0 ≤ b ∧ ∀ j, j < n → f (u j l) ≤ b ∧ f (u j (128 + l)) ≤ b := by
  induction n with
  | zero =>
    show Ideal.ofBits .f32 0x00000000#32 ≤ b ↔ _
    rw [Ideal.ofBits_zero_f32]; simp
  | succ n ih =>
    show max _ (max _ _) ≤ b ↔ _
    rw [max_le_iff, max_le_iff, ih]
    constructor
    · rintro ⟨⟨h0, h⟩, h1, h2⟩
      refine ⟨h0, fun j hj => ?_⟩
      rcases Nat.lt_succ_iff_lt_or_eq.mp hj with h' | rfl
      · exact h j h'
      · exact ⟨h1, h2⟩
    · rintro ⟨h0, h⟩
      exact ⟨⟨h0, fun j hj => h j (by omega)⟩, h n (by omega)⟩

/-- A magnitude is nonnegative. -/
theorem abs_nonneg (x : EReal) : 0 ≤ max x (-x) := by
  rcases le_total 0 x with h | h
  · exact le_max_of_le_left h
  · exact le_max_of_le_right (EReal.neg_nonneg.mpr h)

/-- The lane maxima of a row's magnitudes have the row's largest magnitude as their maximum. -/
theorem max_lanes (w : Fin 8192 → EReal) :
    (Finset.univ : Finset (Fin 128)).fold max (Ideal.ofBits .f32 0xFF800000#32)
      (fun l => Cert.KernelIdeal.Val.foldU (F := Ideal) (FloatOps.maximumf (F := Ideal) (φ := .f32))
        (FloatOps.absf (F := Ideal) (φ := .f32))
        (fun j n => w (Cert.KernelIdeal.Val.colOf (256 * j + n))) l.val 32) = amax w := by
  refine eq_of_forall_ge_iff fun b => ?_
  unfold amax
  rw [Finset.fold_max_le, Finset.fold_max_le]
  refine and_congr_right fun _ => ?_
  constructor
  · intro h k _
    obtain ⟨_, h⟩ := (foldU_max_le _ _ _ _ _).mp (h ⟨k.val % 128, Nat.mod_lt _ (by decide)⟩ (Finset.mem_univ _))
    have hk := k.isLt
    obtain ⟨h1, h2⟩ := h (k.val / 256) (by omega)
    rcases Nat.lt_or_ge (k.val % 256) 128 with hc | hc
    · have e : Cert.KernelIdeal.Val.colOf (256 * (k.val / 256) + k.val % 128) = k := Fin.ext (by
        show (256 * (k.val / 256) + k.val % 128) % 8192 = k.val; omega)
      have h1' : FloatOps.absf (F := Ideal) (φ := .f32) (w (Cert.KernelIdeal.Val.colOf (256 * (k.val / 256) + k.val % 128))) ≤ b := h1
      rw [e] at h1'; exact h1'
    · have e : Cert.KernelIdeal.Val.colOf (256 * (k.val / 256) + (128 + k.val % 128)) = k := Fin.ext (by
        show (256 * (k.val / 256) + (128 + k.val % 128)) % 8192 = k.val; omega)
      have h2' : FloatOps.absf (F := Ideal) (φ := .f32) (w (Cert.KernelIdeal.Val.colOf (256 * (k.val / 256) + (128 + k.val % 128)))) ≤ b := h2
      rw [e] at h2'; exact h2'
  · intro h l _
    refine (foldU_max_le _ _ _ _ _).mpr ⟨(abs_nonneg _).trans (h 0 (Finset.mem_univ _)), fun j _ => ?_⟩
    exact ⟨h _ (Finset.mem_univ _), h _ (Finset.mem_univ _)⟩

/-- The scales of a column of largest magnitudes, at an index. -/
theorem scale_select {s : Shape} (v : FVec Ideal s .f32) (i : s.Idx) :
    select (cmpf .oeq v (broadcast s (Scalar.ofBits .f32 0x00000000#32))) (broadcast s (Scalar.ofBits (F := Ideal) .f32 0x3F800000#32))
      (divf v (broadcast s (Scalar.ofBits .f32 0x42FE0000#32))) i = scale (v i) := rfl

/-- The codes of an array divided by its scales, at an index. -/
theorem code_div {s : Shape} (v w : FVec Ideal s .f32) (i : s.Idx) :
    fptosi 8 (minimumf (broadcast s (Scalar.ofBits .f32 0x42FE0000#32))
      (maximumf (broadcast s (Scalar.ofBits .f32 0xC2FE0000#32)) (roundeven (divf v w)))) i = code (Ideal.div (v i) (w i)) := rfl

variable {n d : ℕ}

/-- The row sums of a block, kept as a column, at a row: the sum of the row. -/
theorem rowSum (v : (⟨2, ![n, d]⟩ : Shape).Idx → EReal) (acc : BitVec 32)
    (h : Shape.Reduces ⟨2, ![n, d]⟩ [1] ⟨1, ![n]⟩) (hφ : FKind.Formats .f32) (hacc : acc = FKind.add.neutral .f32 hφ)
    (hc : (⟨1, ![n]⟩ : Shape).ShapeCasts ⟨2, ![n, 1]⟩) (r : Fin n) :
    shapeCast ⟨2, ![n, 1]⟩ (multiReduction (F := Ideal) (φ := .f32) .add [1] ⟨1, ![n]⟩ v acc h hφ hacc) hc (ValueIdx.ix2 r (0 : Fin 1))
      = ∑ k : Fin d, v (ValueIdx.ix2 r k) := by
  rw [shapeCast_apply _ hc _ (ValueIdx.ix1 r) (by rw [Shape.rowMajor_val_one, Shape.rowMajor_val_two]; show r.val = r.val * 1 + 0; omega)]
  rw [Ideal.multiReduction_add_single]
  refine Finset.sum_congr rfl fun k _ => congrArg v (funext fun a => Fin.ext ?_)
  match a with
  | ⟨0, _⟩ => rfl
  | ⟨1, _⟩ => rfl

/-- The row maxima of a block, kept as a column, at a row: the maximum of the row. -/
theorem rowMax (v : (⟨2, ![n, d]⟩ : Shape).Idx → EReal) (acc : BitVec 32)
    (h : Shape.Reduces ⟨2, ![n, d]⟩ [1] ⟨1, ![n]⟩) (hφ : FKind.Formats .f32) (hacc : acc = FKind.maximumf.neutral .f32 hφ)
    (hc : (⟨1, ![n]⟩ : Shape).ShapeCasts ⟨2, ![n, 1]⟩) (r : Fin n) :
    shapeCast ⟨2, ![n, 1]⟩ (multiReduction (F := Ideal) (φ := .f32) .maximumf [1] ⟨1, ![n]⟩ v acc h hφ hacc) hc (ValueIdx.ix2 r (0 : Fin 1))
      = (Finset.univ : Finset (Fin d)).fold max (Ideal.ofBits .f32 acc) (fun k => v (ValueIdx.ix2 r k)) := by
  rw [shapeCast_apply _ hc _ (ValueIdx.ix1 r) (by rw [Shape.rowMajor_val_one, Shape.rowMajor_val_two]; show r.val = r.val * 1 + 0; omega)]
  rw [Ideal.multiReduction_maximumf_single]
  refine congrArg (Finset.fold max _ · _) (funext fun k => congrArg v (funext fun a => Fin.ext ?_))
  match a with
  | ⟨0, _⟩ => rfl
  | ⟨1, _⟩ => rfl

/-- A column spread over `d` columns has at each index its row's value. -/
theorem spreadCol {α : Type} (v : (⟨2, ![n, 1]⟩ : Shape).Idx → α) (h : (⟨2, ![n, 1]⟩ : Shape).Broadcasts ⟨2, ![n, d]⟩) (hn : n ≠ 1)
    (r : Fin n) (k : Fin d) : broadcastTo ⟨2, ![n, d]⟩ v h (ValueIdx.ix2 r k) = v (ValueIdx.ix2 r (0 : Fin 1)) := by
  refine broadcastTo_apply v h _ _ fun a => ?_
  match a with
  | ⟨0, _⟩ => rw [if_neg (by exact hn)]; rfl
  | ⟨1, _⟩ => rfl

/-- A row spread over `n` rows has at each index its column's value. -/
theorem spreadRow {α : Type} (v : (⟨2, ![1, d]⟩ : Shape).Idx → α) (h : (⟨2, ![1, d]⟩ : Shape).Broadcasts ⟨2, ![n, d]⟩) (hd : d ≠ 1)
    (r : Fin n) (k : Fin d) : broadcastTo ⟨2, ![n, d]⟩ v h (ValueIdx.ix2 r k) = v (ValueIdx.ix2 (0 : Fin 1) k) := by
  refine broadcastTo_apply v h _ _ fun a => ?_
  match a with
  | ⟨0, _⟩ => rfl
  | ⟨1, _⟩ => rw [if_neg (by exact hd)]; rfl

end Cert.Rows
end
-- ==== Proof.KernelRows.lean ====
module
public import proofs.«01_k».proof.Proof.Blocks
public import proofs.«01_k».proof.Proof.Rows
@[expose] public section
set_option maxRecDepth 65536
noncomputable section
namespace Cert.KernelIdeal.Val
open Cert.KernelIdeal Cert.KernelIdeal.Gen Idealize.ShloMosaic

/-! # The kernel's block values at the extended reals, row by row -/

variable (x0 x1 : S128x8192.Idx → Ideal .bf16) (g : S1x8192.Idx → Ideal .f32)

/-- A row of residual sums. -/
def row (r : Fin 128) : Fin 8192 → EReal := fun k => (x0 (ValueIdx.ix2 r k) : EReal) + x1 (ValueIdx.ix2 r k)

/-- The gain as a row. -/
def gRow : Fin 8192 → EReal := fun k => g (ValueIdx.ix2 (0 : Fin 1) k)

/-- The reciprocal root mean square of a row, at every lane. -/
theorem rms_row (r l : Fin 128) : k0_pay246 (F := Ideal) (stat1 x0 x1) (ValueIdx.ix2 r l)
    = Ideal.rsqrt (Ideal.div (∑ q, row x0 x1 r q * row x0 x1 r q) (Ideal.ofBits .f32 0x46000000#32)
        + Ideal.ofBits .f32 0x358637BD#32) := by
  unfold k0_pay246
  dsimp only
  rw [shapeCast_self, Cert.Rows.spreadCol (hn := by decide), shapeCast_self]
  refine congrArg (fun z => Ideal.rsqrt (Ideal.div z (Ideal.ofBits .f32 0x46000000#32) + Ideal.ofBits .f32 0x358637BD#32)) ?_
  refine (Cert.Rows.rowSum _ _ _ _ _ _ r).trans ?_
  exact Cert.Rows.sum_lanes (fun z => z * z) (row x0 x1 r)

/-- The normalized block, row by row. -/
theorem normV_row (r : Fin 128) (k : Fin 8192) : normV (F := Ideal) x0 x1 g (ValueIdx.ix2 r k)
    = Cert.Rows.norm (row x0 x1 r) (gRow g) k := by
  unfold Cert.Rows.norm
  rw [← rms_row x0 x1 r (laneOf k.val)]
  rfl

/-- A row's scale. -/
theorem scale_row (r : Fin 128) : k0_pay248 (F := Ideal) (stat2 x0 x1 g) (ValueIdx.ix2 r (0 : Fin 1))
    = Cert.Rows.scale (Cert.Rows.amax (Cert.Rows.norm (row x0 x1 r) (gRow g))) := by
  unfold k0_pay248
  dsimp only
  refine (Cert.Rows.scale_select _ _).trans (congrArg Cert.Rows.scale ?_)
  refine (Cert.Rows.rowMax _ _ _ _ _ _ r).trans ?_
  rw [← Cert.Rows.max_lanes]
  rw [← show (fun k => normV (F := Ideal) x0 x1 g (ValueIdx.ix2 r k)) = Cert.Rows.norm (row x0 x1 r) (gRow g) from
    funext fun k => normV_row x0 x1 g r k]
  rfl

/-- The codes, row by row. -/
theorem codes_row (r : Fin 128) (k : Fin 8192) : codesB (F := Ideal) x0 x1 g (ValueIdx.ix2 r k)
    = Cert.Rows.code (Ideal.div (Cert.Rows.norm (row x0 x1 r) (gRow g) k)
        (Cert.Rows.scale (Cert.Rows.amax (Cert.Rows.norm (row x0 x1 r) (gRow g))))) := by
  rw [← Cert.Rows.mul_recip _ _ (Cert.Rows.scale_ne_zero _), ← scale_row, ← normV_row]
  have h : k0_pay1 (F := Ideal) (k0_pay248 (F := Ideal) (stat2 x0 x1 g)) (ValueIdx.ix2 r (laneOf k.val))
      = Ideal.div (Ideal.ofBits .f32 0x3F800000#32) (k0_pay248 (F := Ideal) (stat2 x0 x1 g) (ValueIdx.ix2 r (0 : Fin 1))) := by
    unfold k0_pay1
    rw [shapeCast_self, Cert.Rows.spreadCol (hn := by decide), shapeCast_self]
    rfl
  rw [← h]
  rfl

/-- The scales, row by row. -/
theorem scaleB_row (a b : Fin 1) (r : Fin 128) : scaleB (F := Ideal) x0 x1 g (ValueIdx.ix3 a b r)
    = Cert.Rows.scale (Cert.Rows.amax (Cert.Rows.norm (row x0 x1 r) (gRow g))) := by
  rw [← scale_row]
  unfold scaleB k0_pay249
  refine shapeCast_apply _ _ _ _ ?_
  rw [Shape.rowMajor_val_two, Shape.rowMajor_val_three]
  show r.val * 1 + 0 = (a.val * 1 + b.val) * 128 + r.val
  omega

end Cert.KernelIdeal.Val
end
-- ==== Proof.RefRows.lean ====
module
public import proofs.«01_k».proof.Proof.Gen.ReferenceIdeal.Skeleton
public import proofs.«01_k».proof.Proof.Rows
@[expose] public section
set_option maxRecDepth 65536
noncomputable section
namespace Cert.ReferenceIdeal.Val
open Cert.ReferenceIdeal Cert.ReferenceIdeal.Gen Idealize.ShloMosaic

/-! # The reference's values at the extended reals, row by row -/

variable (x0 x1 : S19456x8192.Idx → Ideal .bf16) (g : S1x8192.Idx → Ideal .bf16)

/-- A row of residual sums. -/
def row (r : Fin 19456) : Fin 8192 → EReal := fun k => (x0 (ValueIdx.ix2 r k) : EReal) + x1 (ValueIdx.ix2 r k)

/-- The gain as a row. -/
def gRow : Fin 8192 → EReal := fun k => g (ValueIdx.ix2 (0 : Fin 1) k)

/-- The residual sums. -/
theorem new_row (r : Fin 19456) (k : Fin 8192) : k0_pay2 (F := Ideal) x0 x1 (ValueIdx.ix2 r k) = row x0 x1 r k := by
  unfold k0_pay2
  rw [shapeCast_self, shapeCast_self]
  rfl

/-- The normalized array, row by row. -/
theorem norm_row (r : Fin 19456) (k : Fin 8192) : k0_pay3 (F := Ideal) x0 x1 g (ValueIdx.ix2 r k)
    = Cert.Rows.norm (row x0 x1 r) (gRow g) k := by
  have e : (fun q => k0_pay2 (F := Ideal) x0 x1 (ValueIdx.ix2 r q)) = row x0 x1 r := funext fun q => new_row x0 x1 r q
  rw [← e]
  unfold k0_pay3
  dsimp only
  rw [shapeCast_self]
  refine congrArg₂ (fun a b : EReal => (k0_pay2 (F := Ideal) x0 x1 (ValueIdx.ix2 r k) : EReal) * a * b) ?_ ?_
  · rw [Cert.Rows.spreadCol (hn := by decide)]
    refine congrArg (fun z => Ideal.rsqrt (Ideal.div z (Ideal.ofBits .f32 0x46000000#32) + Ideal.ofBits .f32 0x358637BD#32)) ?_
    exact Cert.Rows.rowSum _ _ _ _ _ _ r
  · rw [Cert.Rows.spreadRow (hd := by decide)]
    rfl

/-- A row's scale. -/
theorem scale_row (r : Fin 19456) : k0_pay4 (F := Ideal) x0 x1 g (ValueIdx.ix2 r (0 : Fin 1))
    = Cert.Rows.scale (Cert.Rows.amax (Cert.Rows.norm (row x0 x1 r) (gRow g))) := by
  unfold k0_pay4
  dsimp only
  refine (Cert.Rows.scale_select _ _).trans (congrArg Cert.Rows.scale ?_)
  refine (Cert.Rows.rowMax _ _ _ _ _ _ r).trans ?_
  rw [← show (fun k => k0_pay3 (F := Ideal) x0 x1 g (ValueIdx.ix2 r k)) = Cert.Rows.norm (row x0 x1 r) (gRow g) from
    funext fun k => norm_row x0 x1 g r k]
  rfl

/-- The codes, row by row. -/
theorem codes_row (r : Fin 19456) (k : Fin 8192) : k0_pay5 (F := Ideal) x0 x1 g (ValueIdx.ix2 r k)
    = Cert.Rows.code (Ideal.div (Cert.Rows.norm (row x0 x1 r) (gRow g) k)
        (Cert.Rows.scale (Cert.Rows.amax (Cert.Rows.norm (row x0 x1 r) (gRow g))))) := by
  rw [← scale_row, ← norm_row]
  unfold k0_pay5
  refine (Cert.Rows.code_div _ _ _).trans (congrArg (fun s => Cert.Rows.code (Ideal.div (k0_pay3 (F := Ideal) x0 x1 g (ValueIdx.ix2 r k)) s)) ?_)
  exact Cert.Rows.spreadCol _ _ (by decide) r k

/-- The scales: at `(a, b, l)` the scale of row `128 a + l`. -/
theorem scales_row (a : Fin 152) (b : Fin 1) (l : Fin 128) (r : Fin 19456) (hr : r.val = 128 * a.val + l.val) :
    k0_pay1 (F := Ideal) (k0_pay4 (F := Ideal) x0 x1 g) (ValueIdx.ix3 a b l)
    = Cert.Rows.scale (Cert.Rows.amax (Cert.Rows.norm (row x0 x1 r) (gRow g))) := by
  rw [← scale_row]
  unfold k0_pay1
  refine shapeCast_apply _ _ _ _ ?_
  rw [Shape.rowMajor_val_two, Shape.rowMajor_val_three]
  show r.val * 1 + 0 = (a.val * 1 + b.val) * 128 + l.val
  omega

end Cert.ReferenceIdeal.Val
end
-- ==== Proof.RefArrays.lean ====
module
public import proofs.«01_k».proof.Proof.Gen.ReferenceIdeal.Frame
public import Idealize.ShloMosaic.Lib.Pipeline.Value
public import Idealize.ShloMosaic.Lib.VecWindow
@[expose] public section
noncomputable section
namespace Cert.ReferenceIdeal.Val
open Cert.ReferenceIdeal Cert.ReferenceIdeal.Gen Idealize.ShloMosaic Idealize.ShloMosaic.TcCoe Idealize.SL.Sem
open Idealize.ShloMosaic.Pipeline (Dat)

/-! # The reference's output arrays after its run

The reference runs at one grid point, whose blocks are the whole arrays. -/

variable {F : FTy → Type} [FloatOps F]
variable (m : (ℓ : Loc nD τ sig) → Buf (Elt F) ℓ) (ρ : Dev nD → PrngReg)

/-- A load of the whole shape reads the contents. -/
theorem ld_full {S : Shape} {e : EltTy} (X : S.Idx → Elt F e) {off : Fin S.rank → ℕ} (inb : ∀ a, off a + S.size a ≤ S.size a) :
    View.ld X (Rect.unit off S.size inb) = X :=
  funext fun y => congrArg X (Rect.emb_unit_full inb y)

/-- One store of the whole shape leaves what it stores. -/
theorem canon_full {S : Shape} {e : EltTy} {off : Fin S.rank → ℕ} (inb : ∀ a, off a + S.size a ≤ S.size a) (w : S.Idx → Elt F e) :
    View.canon (Val := Elt F) [(⟨Rect.unit off S.size inb, w⟩ : View.Piece (Elt F) S e)] = w := by
  funext y
  have h := View.canon_cons_emb (Val := Elt F) (Rect.unit off S.size inb) w [] y
  rwa [Rect.emb_unit_full] at h

/-- Every window's block index is zero. -/
theorem index_zero : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0) :=
  (by decide +kernel : ∀ t : Fin grid0.N, _)

/-- Input 0's block is the whole array. -/
theorem iblk0 (c : Dev nD) (t : Fin cfg0.N) : iblk m c 0 t = V m c main_v0 := by
  obtain ⟨⟨e0, e1⟩, -⟩ := index_zero t
  funext y
  refine congrArg (V m c main_v0) (funext fun a => Fin.ext ?_)
  match a with
  | ⟨0, _⟩ => show win0_0.index t (0 : Fin 2) * 19456 + 1 * (y 0).val = (y 0).val; rw [e0]; omega
  | ⟨1, _⟩ => show win0_0.index t (1 : Fin 2) * 8192 + 1 * (y 1).val = (y 1).val; rw [e1]; omega

/-- Input 1's block is the whole array. -/
theorem iblk1 (c : Dev nD) (t : Fin cfg0.N) : iblk m c 1 t = V m c main_v1 := by
  obtain ⟨-, ⟨e0, e1⟩, -⟩ := index_zero t
  funext y
  refine congrArg (V m c main_v1) (funext fun a => Fin.ext ?_)
  match a with
  | ⟨0, _⟩ => show win0_1.index t (0 : Fin 2) * 19456 + 1 * (y 0).val = (y 0).val; rw [e0]; omega
  | ⟨1, _⟩ => show win0_1.index t (1 : Fin 2) * 8192 + 1 * (y 1).val = (y 1).val; rw [e1]; omega

/-- Input 2's block is the whole array. -/
theorem iblk2 (c : Dev nD) (t : Fin cfg0.N) : iblk m c 2 t = V m c main_v2 := by
  obtain ⟨-, -, ⟨e0, e1⟩, -⟩ := index_zero t
  funext y
  refine congrArg (V m c main_v2) (funext fun a => Fin.ext ?_)
  match a with
  | ⟨0, _⟩ => show win0_2.index t (0 : Fin 2) * 1 + 1 * (y 0).val = (y 0).val; rw [e0]; omega
  | ⟨1, _⟩ => show win0_2.index t (1 : Fin 2) * 8192 + 1 * (y 1).val = (y 1).val; rw [e1]; omega

/-- Output 3's array: the residual sums. -/
def R3 (c : Dev nD) : Buf (Elt F) ((c : Thread nD τ).loc main_v3_0) := k0_pay2 (V m c main_v0) (V m c main_v1)

/-- Output 4's array: the codes. -/
def R4 (c : Dev nD) : Buf (Elt F) ((c : Thread nD τ).loc main_v3_1) := k0_pay5 (V m c main_v0) (V m c main_v1) (V m c main_v2)

/-- Output 5's array: the scales. -/
def R5 (c : Dev nD) : Buf (Elt F) ((c : Thread nD τ).loc main_v3_2) := k0_pay1 (k0_pay4 (V m c main_v0) (V m c main_v1) (V m c main_v2))

/-- What the point leaves for output 3. -/
theorem out3_eq (c : Dev nD) (t : Fin cfg0.N) : out0_3 (iblk m c 0 t) (iblk m c 1 t) (iblk m c 2 t) = R3 m c := by
  unfold out0_3 R3
  rw [canon_full, ld_full, ld_full]
  exact congrArg₂ k0_pay2 (iblk0 m c t) (iblk1 m c t)

/-- What the point leaves for output 4. -/
theorem out4_eq (c : Dev nD) (t : Fin cfg0.N) : out0_4 (iblk m c 0 t) (iblk m c 1 t) (iblk m c 2 t) = R4 m c := by
  unfold out0_4 R4
  rw [canon_full, ld_full, ld_full, ld_full]
  exact congr (congrArg₂ k0_pay5 (iblk0 m c t) (iblk1 m c t)) (iblk2 m c t)

/-- What the point leaves for output 5. -/
theorem out5_eq (c : Dev nD) (t : Fin cfg0.N) : out0_5 (iblk m c 0 t) (iblk m c 1 t) (iblk m c 2 t) = R5 m c := by
  unfold out0_5 R5
  rw [canon_full, ld_full, ld_full, ld_full]
  exact congrArg k0_pay1 (congr (congrArg₂ k0_pay4 (iblk0 m c t) (iblk1 m c t)) (iblk2 m c t))

/-- The one point writes every output back. -/
theorem flush_all : ∀ t : Fin cfg0.N, (cfg0.win 3).flush t = true ∧ (cfg0.win 4).flush t = true ∧ (cfg0.win 5).flush t = true :=
  (by decide +kernel : ∀ t : Fin grid0.N, win0_3.flush t = true ∧ win0_4.flush t = true ∧ win0_5.flush t = true)

/-- The index of output 3's array that a block index names is itself. -/
theorem emb3 (t : Fin cfg0.N) (y : S19456x8192.Idx) : ((cfg0.win 3).blk t).view.emb y = y := by
  obtain ⟨-, -, -, ⟨e0, e1⟩, -⟩ := index_zero t
  refine funext fun a => Fin.ext ?_
  match a with
  | ⟨0, _⟩ => show win0_3.index t (0 : Fin 2) * 19456 + 1 * (y 0).val = (y 0).val; rw [e0]; omega
  | ⟨1, _⟩ => show win0_3.index t (1 : Fin 2) * 8192 + 1 * (y 1).val = (y 1).val; rw [e1]; omega

/-- The index of output 4's array that a block index names is itself. -/
theorem emb4 (t : Fin cfg0.N) (y : S19456x8192.Idx) : ((cfg0.win 4).blk t).view.emb y = y := by
  obtain ⟨-, -, -, -, ⟨e0, e1⟩, -⟩ := index_zero t
  refine funext fun a => Fin.ext ?_
  match a with
  | ⟨0, _⟩ => show win0_4.index t (0 : Fin 2) * 19456 + 1 * (y 0).val = (y 0).val; rw [e0]; omega
  | ⟨1, _⟩ => show win0_4.index t (1 : Fin 2) * 8192 + 1 * (y 1).val = (y 1).val; rw [e1]; omega

/-- The index of output 5's array that a block index names is itself. -/
theorem emb5 (t : Fin cfg0.N) (y : S152x1x128.Idx) : ((cfg0.win 5).blk t).view.emb y = y := by
  obtain ⟨-, -, -, -, -, e0, e1, e2⟩ := index_zero t
  refine funext fun a => Fin.ext ?_
  match a with
  | ⟨0, _⟩ => show win0_5.index t (0 : Fin 3) * 152 + 1 * (y 0).val = (y 0).val; rw [e0]; omega
  | ⟨1, _⟩ => show win0_5.index t (1 : Fin 3) * 1 + 1 * (y 1).val = (y 1).val; rw [e1]; omega
  | ⟨2, _⟩ => show win0_5.index t (2 : Fin 3) * 128 + 1 * (y 2).val = (y 2).val; rw [e2]; omega

/-- Output 3's array after the run. -/
theorem final3 (c : Dev nD) : (dats m 0 c).arrAt 3 cfg0.N = R3 m c :=
  (dats m 0 c).arrAt_eq_of_cover 3 _ (fun t _ => by
    show (cfg0.win 3).cut (grid0.coords t) ((dats m 0 c).after 3 t) = _
    rw [after0_3, out3_eq]
    funext y
    exact (congrArg (R3 m c) (emb3 t y)).symm)
    (fun i => ⟨t0_0, (flush_all _).1, by
      rw [← emb3 t0_0 i]; exact View.emb_mem_set _ _⟩)

/-- Output 4's array after the run. -/
theorem final4 (c : Dev nD) : (dats m 0 c).arrAt 4 cfg0.N = R4 m c :=
  (dats m 0 c).arrAt_eq_of_cover 4 _ (fun t _ => by
    show (cfg0.win 4).cut (grid0.coords t) ((dats m 0 c).after 4 t) = _
    rw [after0_4, out4_eq]
    funext y
    exact (congrArg (R4 m c) (emb4 t y)).symm)
    (fun i => ⟨t0_0, (flush_all _).2.1, by
      rw [← emb4 t0_0 i]; exact View.emb_mem_set _ _⟩)

/-- Output 5's array after the run. -/
theorem final5 (c : Dev nD) : (dats m 0 c).arrAt 5 cfg0.N = R5 m c :=
  (dats m 0 c).arrAt_eq_of_cover 5 _ (fun t _ => by
    show (cfg0.win 5).cut (grid0.coords t) ((dats m 0 c).after 5 t) = _
    rw [after0_5, out5_eq]
    funext y
    exact (congrArg (R5 m c) (emb5 t y)).symm)
    (fun i => ⟨t0_0, (flush_all _).2.2, by
      rw [← emb5 t0_0 i]; exact View.emb_mem_set _ _⟩)

/-- The reference runs; its outputs end as stated and its arguments as launched. -/
theorem run : θ_run defs (onTc (τ := τ) (main (F := F))) ⟨m, fun _ => 0, ρ⟩ fun r => ∀ c : Dev nD,
      r.2.mem ((c : Thread nD τ).loc main_v3_0) = R3 m c
      ∧ r.2.mem ((c : Thread nD τ).loc main_v3_1) = R4 m c
      ∧ r.2.mem ((c : Thread nD τ).loc main_v3_2) = R5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c), ((h c).1 4).trans (final4 m c), ((h c).1 5).trans (final5 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

/-- What the region finds in the first operand: the first argument, reshaped. -/
theorem V_v0 (c : Dev nD) : V m c main_v0
    = shapeCast S19456x8192 (m ((c : Thread nD τ).loc main_arg0)) shapeCasts_S19x1024x8192_S19456x8192 := by
  unfold V hostOps0
  after_results
  rfl

/-- What the region finds in the second operand: the second argument, reshaped. -/
theorem V_v1 (c : Dev nD) : V m c main_v1
    = shapeCast S19456x8192 (m ((c : Thread nD τ).loc main_arg1)) shapeCasts_S19x1024x8192_S19456x8192 := by
  unfold V hostOps0
  after_results
  rfl

/-- What the region finds in the third operand: the third argument, reshaped. -/
theorem V_v2 (c : Dev nD) : V m c main_v2
    = shapeCast S1x8192 (m ((c : Thread nD τ).loc main_arg2)) shapeCasts_S8192_S1x8192 := by
  unfold V hostOps0
  after_results
  rfl

end Cert.ReferenceIdeal.Val
end
-- ==== Proof.Algebra.lean ====
module
public import proofs.«01_k».proof.Proof.Arrays
public import proofs.«01_k».proof.Proof.KernelRows
public import proofs.«01_k».proof.Proof.RefRows
public import proofs.«01_k».proof.Proof.RefArrays
@[expose] public section
set_option maxRecDepth 65536
noncomputable section
namespace Cert.KernelIdeal.Val
open Cert.KernelIdeal Cert.KernelIdeal.Gen Idealize.ShloMosaic Idealize.ShloMosaic.TcCoe Idealize.SL.Sem

/-! # The kernel's output arrays are the reference's, at the extended reals -/

section Operands
variable {F : FTy → Type} [FloatOps F]
variable (m : (ℓ : Loc nD τ sig) → Buf (Elt F) ℓ)

/-- What the region finds in the first operand: the first argument, reshaped. -/
theorem V_v0 (c : Dev nD) : V m c main_v0
    = shapeCast S19456x8192 (m ((c : Thread nD τ).loc main_arg0)) shapeCasts_S19x1024x8192_S19456x8192 := by
  unfold V hostOps0
  after_results
  rfl

/-- What the region finds in the second operand: the second argument, reshaped. -/
theorem V_v1 (c : Dev nD) : V m c main_v1
    = shapeCast S19456x8192 (m ((c : Thread nD τ).loc main_arg1)) shapeCasts_S19x1024x8192_S19456x8192 := by
  unfold V hostOps0
  after_results
  rfl

/-- What the region finds in the third operand: the third argument, reshaped. -/
theorem V_v2 (c : Dev nD) : V m c main_v2
    = shapeCast S1x8192 (m ((c : Thread nD τ).loc main_arg2)) shapeCasts_S8192_S1x8192 := by
  unfold V hostOps0
  after_results
  rfl

/-- The input windows' block indices: the point's 128 rows of the first two operands, all of the third. -/
theorem index_in : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0) :=
  (by decide +kernel : ∀ t : Fin grid0.N, _)

/-- The first operand's block at a point, at an index of the array. -/
theorem iblk0_at (c : Dev nD) (t : Fin cfg0.N) (y : S128x8192.Idx) (i : S19456x8192.Idx)
    (h0 : (i 0).val = t.val * 128 + (y 0).val) (h1 : (i 1).val = (y 1).val) : iblk m c 0 t y = V m c main_v0 i := by
  obtain ⟨⟨e0, e1⟩, -⟩ := index_in t
  refine congrArg (V m c main_v0) (funext fun a => Fin.ext ?_)
  match a with
  | ⟨0, _⟩ => show win0_0.index t (0 : Fin 2) * 128 + 1 * (y 0).val = (i 0).val; rw [e0, h0]; omega
  | ⟨1, _⟩ => show win0_0.index t (1 : Fin 2) * 8192 + 1 * (y 1).val = (i 1).val; rw [e1, h1]; omega

/-- The second operand's block at a point, at an index of the array. -/
theorem iblk1_at (c : Dev nD) (t : Fin cfg0.N) (y : S128x8192.Idx) (i : S19456x8192.Idx)
    (h0 : (i 0).val = t.val * 128 + (y 0).val) (h1 : (i 1).val = (y 1).val) : iblk m c 1 t y = V m c main_v1 i := by
  obtain ⟨-, ⟨e0, e1⟩, -⟩ := index_in t
  refine congrArg (V m c main_v1) (funext fun a => Fin.ext ?_)
  match a with
  | ⟨0, _⟩ => show win0_1.index t (0 : Fin 2) * 128 + 1 * (y 0).val = (i 0).val; rw [e0, h0]; omega
  | ⟨1, _⟩ => show win0_1.index t (1 : Fin 2) * 8192 + 1 * (y 1).val = (i 1).val; rw [e1, h1]; omega

/-- The third operand's block is the whole operand. -/
theorem iblk2_at (c : Dev nD) (t : Fin cfg0.N) (y : S1x8192.Idx) : iblk m c 2 t y = V m c main_v2 y := by
  obtain ⟨-, -, e0, e1⟩ := index_in t
  refine congrArg (V m c main_v2) (funext fun a => Fin.ext ?_)
  match a with
  | ⟨0, _⟩ => show win0_2.index t (0 : Fin 2) * 1 + 1 * (y 0).val = (y 0).val; rw [e0]; omega
  | ⟨1, _⟩ => show win0_2.index t (1 : Fin 2) * 8192 + 1 * (y 1).val = (y 1).val; rw [e1]; omega

end Operands

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- The two memories hold the same arguments on a device. -/
def Agree (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)

/-- An operand of the kernel, as an array of extended reals. -/
abbrev X0 (c : Dev nD) : S19456x8192.Idx → Ideal .bf16 := V m c main_v0
/-- The second operand of the kernel. -/
abbrev X1 (c : Dev nD) : S19456x8192.Idx → Ideal .bf16 := V m c main_v1
/-- The third operand of the kernel. -/
abbrev X2 (c : Dev nD) : S1x8192.Idx → Ideal .bf16 := V m c main_v2

/-- From memories that agree the reference finds the kernel's first operand. -/
theorem ref0 (c : Dev nD) (h : Agree m m' c) : Cert.ReferenceIdeal.Gen.V m' c Cert.ReferenceIdeal.main_v0 = X0 m c := by
  rw [Cert.ReferenceIdeal.Val.V_v0, X0, V_v0]
  exact congrArg (fun x => shapeCast S19456x8192 x shapeCasts_S19x1024x8192_S19456x8192) h.1

/-- From memories that agree the reference finds the kernel's second operand. -/
theorem ref1 (c : Dev nD) (h : Agree m m' c) : Cert.ReferenceIdeal.Gen.V m' c Cert.ReferenceIdeal.main_v1 = X1 m c := by
  rw [Cert.ReferenceIdeal.Val.V_v1, X1, V_v1]
  exact congrArg (fun x => shapeCast S19456x8192 x shapeCasts_S19x1024x8192_S19456x8192) h.2.1

/-- From memories that agree the reference finds the kernel's third operand. -/
theorem ref2 (c : Dev nD) (h : Agree m m' c) : Cert.ReferenceIdeal.Gen.V m' c Cert.ReferenceIdeal.main_v2 = X2 m c := by
  rw [Cert.ReferenceIdeal.Val.V_v2, X2, V_v2]
  exact congrArg (fun x => shapeCast S1x8192 x shapeCasts_S8192_S1x8192) h.2.2

/-- A row of a point's residual sums is a row of the arrays'. -/
theorem row_at (c : Dev nD) (t : Fin cfg0.N) (r : Fin 128) (q : Fin 19456) (h : q.val = t.val * 128 + r.val) :
    row (iblk m c 0 t) (iblk m c 1 t) r = Cert.ReferenceIdeal.Val.row (X0 m c) (X1 m c) q := by
  funext k
  exact congrArg₂ (fun a b : EReal => a + b) (iblk0_at m c t (ValueIdx.ix2 r k) (ValueIdx.ix2 q k) h rfl)
    (iblk1_at m c t (ValueIdx.ix2 r k) (ValueIdx.ix2 q k) h rfl)

/-- The kernel's gain is the reference's. -/
theorem gain_at (c : Dev nD) : gRow (gain m c) = Cert.ReferenceIdeal.Val.gRow (X2 m c) := by
  funext k
  unfold gRow gain k0_pay244
  rw [shapeCast_self, shapeCast_self]
  exact iblk2_at m c t0 (ValueIdx.ix2 (0 : Fin 1) k)

/-- The first output: the residual sums are the reference's. -/
theorem G3_eq (c : Dev nD) (h : Agree m m' c) : G3 m c = Cert.ReferenceIdeal.Val.R3 m' c := by
  funext i
  have hi0 : (i 0).val < 19456 := (i 0).isLt
  have hi1 : (i 1).val < 8192 := (i 1).isLt
  have hp : pt3Of i < cfg0.N := lt_of_lt_of_eq (show pt3Of i < 152 by show 1 * ((i 0).val / 128 - 0) + 1 * ((i 1).val / 8192 - 0) < 152; omega) N_0.symm
  have e0 : (i 0).val = pt3Of i * 128 + (i 0).val % 128 := by
    show (i 0).val = (1 * ((i 0).val / 128 - 0) + 1 * ((i 1).val / 8192 - 0)) * 128 + (i 0).val % 128; omega
  have e1 : (i 1).val = (i 1).val % 8192 := (Nat.mod_eq_of_lt hi1).symm
  unfold G3 Cert.ReferenceIdeal.Val.R3
  rw [dif_pos hp, ref0 m m' c h, ref1 m m' c h]
  have hi : i = ValueIdx.ix2 (i 0 : Fin 19456) (i 1 : Fin 8192) := ValueIdx.eq_ix2 i
  rw [congrArg (Cert.ReferenceIdeal.Gen.k0_pay2 (F := Ideal) (X0 m c) (X1 m c)) hi]
  refine Eq.trans ?_ (Cert.ReferenceIdeal.Val.new_row (X0 m c) (X1 m c) (i 0) (i 1)).symm
  refine congrArg₂ (fun a b : EReal => a + b) (iblk0_at m c ⟨pt3Of i, hp⟩ (loc3Of i) _ e0 e1)
    (iblk1_at m c ⟨pt3Of i, hp⟩ (loc3Of i) _ e0 e1)

/-- The second output: the codes are the reference's. -/
theorem G4_eq (c : Dev nD) (h : Agree m m' c) : G4 m c = Cert.ReferenceIdeal.Val.R4 m' c := by
  funext i
  have hi0 : (i 0).val < 19456 := (i 0).isLt
  have hi1 : (i 1).val < 8192 := (i 1).isLt
  have hp : pt4Of i < cfg0.N := lt_of_lt_of_eq (show pt4Of i < 152 by show 1 * ((i 0).val / 128 - 0) + 1 * ((i 1).val / 8192 - 0) < 152; omega) N_0.symm
  have e0 : (i 0).val = pt4Of i * 128 + (i 0).val % 128 := by
    show (i 0).val = (1 * ((i 0).val / 128 - 0) + 1 * ((i 1).val / 8192 - 0)) * 128 + (i 0).val % 128; omega
  unfold G4 Cert.ReferenceIdeal.Val.R4
  rw [dif_pos hp, ref0 m m' c h, ref1 m m' c h, ref2 m m' c h]
  have hi : i = ValueIdx.ix2 (i 0 : Fin 19456) (i 1 : Fin 8192) := ValueIdx.eq_ix2 i
  rw [congrArg (Cert.ReferenceIdeal.Gen.k0_pay5 (F := Ideal) (X0 m c) (X1 m c) (X2 m c)) hi]
  refine Eq.trans ?_ (Cert.ReferenceIdeal.Val.codes_row (X0 m c) (X1 m c) (X2 m c) (i 0) (i 1)).symm
  have hl : loc4Of i = ValueIdx.ix2 (⟨(i 0).val % 128, Nat.mod_lt _ (by decide)⟩ : Fin 128) (i 1 : Fin 8192) := by
    refine funext fun a => Fin.ext ?_
    match a with
    | ⟨0, _⟩ => rfl
    | ⟨1, _⟩ => exact Nat.mod_eq_of_lt hi1
  rw [hl]
  refine (codes_row (iblk m c 0 ⟨pt4Of i, hp⟩) (iblk m c 1 ⟨pt4Of i, hp⟩) (gain m c) _ _).trans ?_
  rw [row_at m c ⟨pt4Of i, hp⟩ ⟨(i 0).val % 128, Nat.mod_lt _ (by decide)⟩ (i 0) e0, gain_at]

/-- The third output: the scales are the reference's. -/
theorem G5_eq (c : Dev nD) (h : Agree m m' c) : G5 m c = Cert.ReferenceIdeal.Val.R5 m' c := by
  funext i
  have hi0 : (i 0).val < 152 := (i 0).isLt
  have hi1 : (i 1).val < 1 := (i 1).isLt
  have hi2 : (i 2).val < 128 := (i 2).isLt
  have hq : pt5Of i = (i 0).val := by
    show 1 * ((i 0).val / 1 - 0) + 1 * ((i 1).val / 1 - 0) + 1 * ((i 2).val / 128 - 0) = (i 0).val; omega
  have hp : pt5Of i < cfg0.N := lt_of_lt_of_eq (show pt5Of i < 152 by rw [hq]; exact hi0) N_0.symm
  unfold G5 Cert.ReferenceIdeal.Val.R5
  rw [dif_pos hp, ref0 m m' c h, ref1 m m' c h, ref2 m m' c h]
  have hi : i = ValueIdx.ix3 (i 0 : Fin 152) (i 1 : Fin 1) (i 2 : Fin 128) := ValueIdx.eq_ix3 i
  rw [congrArg (Cert.ReferenceIdeal.Gen.k0_pay1 (F := Ideal) (Cert.ReferenceIdeal.Gen.k0_pay4 (F := Ideal) (X0 m c) (X1 m c) (X2 m c))) hi]
  refine Eq.trans ?_ (Cert.ReferenceIdeal.Val.scales_row (X0 m c) (X1 m c) (X2 m c) (i 0) (i 1) (i 2)
    ⟨128 * (i 0).val + (i 2).val, by omega⟩ rfl).symm
  have hl : loc5Of i = ValueIdx.ix3 (0 : Fin 1) (0 : Fin 1) (i 2 : Fin 128) := by
    refine funext fun a => Fin.ext ?_
    match a with
    | ⟨0, _⟩ => exact Nat.mod_one _
    | ⟨1, _⟩ => exact Nat.mod_one _
    | ⟨2, _⟩ => exact Nat.mod_eq_of_lt hi2
  rw [hl]
  refine (scaleB_row (iblk m c 0 ⟨pt5Of i, hp⟩) (iblk m c 1 ⟨pt5Of i, hp⟩) (gain m c) _ _ _).trans ?_
  rw [row_at m c ⟨pt5Of i, hp⟩ (i 2) ⟨128 * (i 0).val + (i 2).val, by omega⟩
    (by show 128 * (i 0).val + (i 2).val = pt5Of i * 128 + (i 2).val; rw [hq]; omega), gain_at]

end Cert.KernelIdeal.Val
end
-- ==== Proof.lean ====
module

public import proofs.«01_k».proof.Defs
public import proofs.«01_k».proof.Proof.KernelFrame
public import proofs.«01_k».proof.Proof.Gen.KernelIdeal
public import proofs.«01_k».proof.Proof.Gen.ReferenceIdeal
public import proofs.«01_k».proof.Proof.Gen.ReferenceIdeal.Frame
public import proofs.«01_k».proof.Proof.Algebra
public import Idealize.ShloMosaic.Adequacy
public import Idealize.ShloMosaic.Init

@[expose] public section

noncomputable section

namespace Cert.Proof

open Idealize.ShloMosaic Idealize.SL.Sem

/-- At the extended reals the kernel and the reference, from memories that agree on the arguments, both run and end with
    the same three results and their arguments unchanged. -/
theorem algebraic : algebraic_KernelIdeal_ReferenceIdeal (hKernelIdeal := Cert.KernelIdeal.Gen.facts)
    (hReferenceIdeal := Cert.ReferenceIdeal.Gen.facts) := by
  intro m g m' g' _ h
  refine ⟨fun c => Cert.KernelIdeal.Val.G3 m c, fun c => Cert.KernelIdeal.Val.G4 m c, fun c => Cert.KernelIdeal.Val.G5 m c,
    Cert.KernelIdeal.Val.run m g, ?_⟩
  refine (θ_run _ _ _).mono (fun r hr c => ?_) (Cert.ReferenceIdeal.Val.run m' g')
  obtain ⟨r3, r4, r5, k⟩ := hr c
  exact ⟨r3.trans (Cert.KernelIdeal.Val.G3_eq m m' c (h c)).symm, r4.trans (Cert.KernelIdeal.Val.G4_eq m m' c (h c)).symm,
    r5.trans (Cert.KernelIdeal.Val.G5_eq m m' c (h c)).symm, k⟩

/-- Everything claimed. -/
theorem claim : Cert.Claim := ⟨Cert.Kernel.Gen.facts, Cert.KernelIdeal.Gen.facts, Cert.ReferenceIdeal.Gen.facts,
  Cert.Kernel.Val.frame,
  fun m ρ _ => Cert.KernelIdeal.Val.frame m ρ,
  fun m ρ _ => Cert.ReferenceIdeal.Gen.frame m ρ,
  trivial,
  algebraic⟩

end Cert.Proof

end
